-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_log2e_quarter" .f32 0xBEB8AA3B#32 ((-((4 * (Real.log 2))⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1024x32 : Shape := ⟨3, ![8, 1024, 32]⟩
abbrev S32x8192 : Shape := ⟨2, ![32, 8192]⟩
abbrev S_ : Shape := ⟨0, ![]⟩

class Facts : Prop where
  bcast_S_S8x1024x32 : S_.BroadcastsInDim S8x1024x32 (![] : Fin 0 → Fin S8x1024x32.rank)
  bcast_S_S32x8192 : S_.BroadcastsInDim S32x8192 (![] : Fin 0 → Fin S32x8192.rank)

variable [Facts]

def fn {F : FTy → Type} [FloatOps F] (main_arg0 : FVec F S8x1024x32 .f32) (main_arg1 : FVec F S32x8192 .f32) : IVec S8x1024x32 1 × IVec S32x8192 1 :=
  let main_v0 : FVec F S8x1024x32 .f32 := Host.absf main_arg0
  let main_cst : FVec F S_ .f32 := constant S_ .f32 0x7F800000#32
  let main_v1 : FVec F S8x1024x32 .f32 := broadcastInDim S8x1024x32 ![] bcast_S_S8x1024x32 main_cst
  let main_v2 : IVec S8x1024x32 1 := cmpf .olt main_v0 main_v1
  let main_v3 : FVec F S32x8192 .f32 := Host.absf main_arg1
  let main_cst_0 : FVec F S_ .f32 := constant S_ .f32 0x7F800000#32
  let main_v4 : FVec F S32x8192 .f32 := broadcastInDim S32x8192 ![] bcast_S_S32x8192 main_cst_0
  let main_v5 : IVec S32x8192 1 := cmpf .olt main_v3 main_v4
  (main_v2, main_v5)
-- ==== Kernel.lean ====
abbrev S8x1024x32 : Shape := ⟨3, ![8, 1024, 32]⟩
abbrev S32x8192 : Shape := ⟨2, ![32, 8192]⟩
abbrev S8192x32 : Shape := ⟨2, ![8192, 32]⟩
abbrev S8192 : Shape := ⟨1, ![8192]⟩
abbrev S1x1 : Shape := ⟨2, ![1, 1]⟩
abbrev S1024x32 : Shape := ⟨2, ![1024, 32]⟩
abbrev S1024 : Shape := ⟨1, ![1024]⟩
abbrev S1x8192 : Shape := ⟨2, ![1, 8192]⟩
abbrev S64x8192 : Shape := ⟨2, ![64, 8192]⟩
abbrev S1024x1 : Shape := ⟨2, ![1024, 1]⟩
abbrev S1024x8192 : Shape := ⟨2, ![1024, 8192]⟩
abbrev S1024x64 : Shape := ⟨2, ![1024, 64]⟩
abbrev S1x1024x32 : Shape := ⟨3, ![1, 1024, 32]⟩
abbrev S1 : Shape := ⟨1, ![1]⟩
abbrev S1x1x1 : Shape := ⟨3, ![1, 1, 1]⟩
abbrev S_ : Shape := ⟨0, ![]⟩
abbrev S8x1024 : Shape := ⟨2, ![8, 1024]⟩

abbrev nBuf : Space → Nat
  | .hbm => 11
  | .vmem => 11
  | .smem => 0
  | _ => 0

abbrev bufTy : (tb : Table) → Fin (tcTables nBuf tb) → BufTy
  | .hbm, ⟨0, _⟩ => ⟨S8x1024x32, .f32⟩
  | .hbm, ⟨1, _⟩ => ⟨S32x8192, .f32⟩
  | .hbm, ⟨2, _⟩ => ⟨S8192x32, .f32⟩
  | .hbm, ⟨3, _⟩ => ⟨S8192x32, .f32⟩
  | .hbm, ⟨4, _⟩ => ⟨S8192, .i32⟩
  | .hbm, ⟨5, _⟩ => ⟨S1x1, .f32⟩
  | .hbm, ⟨6, _⟩ => ⟨S8x1024x32, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x1024, .i32⟩
  | .local _ .vmem, ⟨0, _⟩ => ⟨S1024x32, .f32⟩
  | .local _ .vmem, ⟨1, _⟩ => ⟨S1024x32, .f32⟩
  | .local _ .vmem, ⟨2, _⟩ => ⟨S32x8192, .f32⟩
  | .local _ .vmem, ⟨3, _⟩ => ⟨S1024x32, .f32⟩
  | .local _ .vmem, ⟨4, _⟩ => ⟨S1024x32, .f32⟩
  | .local _ .vmem, ⟨5, _⟩ => ⟨S1024, .i32⟩
  | .local _ .vmem, ⟨6, _⟩ => ⟨S1024, .i32⟩
  | .local _ .vmem, ⟨7, _⟩ => ⟨S1x1, .f32⟩
  | .local _ .vmem, ⟨8, _⟩ => ⟨S1x8192, .f32⟩
  | .local _ .vmem, ⟨9, _⟩ => ⟨S64x8192, .f32⟩
  | .local _ .vmem, ⟨10, _⟩ => ⟨S1x8192, .f32⟩
  | _, _ => ⟨S8x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "neg_log2e_quarter" => some ((-((4 * (Real.log 2))⁻¹) : ℝ) : EReal)
  | _ => none
-- ==== ReferenceIdeal.lean ====
abbrev S8x1024x32 : Shape := ⟨3, ![8, 1024, 32]⟩
abbrev S32x8192 : Shape := ⟨2, ![32, 8192]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩
abbrev S8x1024 : Shape := ⟨2, ![8, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x1024x32, .f32⟩
  | .hbm, ⟨1, _⟩ => ⟨S32x8192, .f32⟩
  | .hbm, ⟨2, _⟩ => ⟨S8192x32, .f32⟩
  | .hbm, ⟨3, _⟩ => ⟨S8192x32, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x32, .f32⟩
  | .hbm, ⟨9, _⟩ => ⟨S8192x32, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S32x8192, .f32⟩
  | .hbm, ⟨14, _⟩ => ⟨S_, .f32⟩
  | .hbm, ⟨15, _⟩ => ⟨S8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .i32⟩
  | .hbm, ⟨21, _⟩ => ⟨S_, .f32⟩
  | .hbm, ⟨22, _⟩ => ⟨S_, .i32⟩
  | .hbm, ⟨23, _⟩ => ⟨S8192, .f32⟩
  | .hbm, ⟨24, _⟩ => ⟨S8192, .i32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x32, .f32⟩
  | .hbm, ⟨44, _⟩ => ⟨S8192x32, .f32⟩
  | .hbm, ⟨45, _⟩ => ⟨S8x1024x32, .f32⟩
  | .hbm, ⟨46, _⟩ => ⟨S8x1024x32, .f32⟩
  | .hbm, ⟨47, _⟩ => ⟨S8x1024x32, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8x1024, .i32⟩
  | _, _ => ⟨S8x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Proof.KernelCase.lean ====
/-
  What one grid point of the kernel leaves in its output blocks and in its scratch, as the kernel's pure payloads:
  the first point (case A) fills the scratch and starts the loss at zero, every other point (case B) reads both back.
-/
module

public import proofs.«01_k».proof.Proof.Gen.KernelIdeal.Frame
public import Idealize.ShloMosaic.Lib.Pipeline.Value

@[expose] public section

set_option maxRecDepth 16384

noncomputable section

namespace Cert.Proof.Ker

open Cert.KernelIdeal Cert.KernelIdeal.Gen
open Idealize.ShloMosaic Idealize.ShloMosaic.TcCoe Idealize.SL.Sem

variable {F : FTy → Type} [FloatOps F] [Named F]

/-- The offset `![0, 0]` is zero on both axes. -/
theorem off2 : (![0, 0] : Fin 2 → Nat) = fun _ => 0 := by
  funext a; fin_cases a <;> rfl

/-- The offset `![0]` is zero on its axis. -/
theorem off1 : (![0] : Fin 1 → Nat) = fun _ => 0 := by
  funext a; fin_cases a; rfl

/-- A load of the whole of a covered buffer reads the contents its stores left. -/
theorem readCov_whole {S : Shape} {e : EltTy} {sp : Space} (v : View sig .tc sp S e) (L : List (View.Piece (Elt F) S e))
    {off : Fin S.rank → Nat} (h : off = fun _ => 0) (inb : ∀ a, off a + S.size a ≤ S.size a) :
    v.readCov L (Rect.unit off S.size inb).toLoadRect = View.canon L := by
  rw [View.readCov_eq_canon']
  exact View.ld_unit_zero h inb (View.canon L)

/-- The augmented codebook that the first point leaves in scratch: the codes over the whole block of marker rows. -/
def augmented (e : Vec F S32x8192 .f32) : Vec F S64x8192 .f32 :=
  View.canon (Val := Elt F) [⟨Rect.unit (s := S64x8192) ![0, 0] ![32, 8192] (by decide), k0_pay6 e⟩,
    ⟨Rect.unit (s := S64x8192) ![0, 0] ![64, 8192] (by decide), k0_pay5⟩]

variable (c : Dev nD) (i : grid0.Coords)
variable (arg1 : Memref sig .tc .vmem S1024x32 .f32) (harg1 : arg1.IsWhole)
variable (arg2 : Memref sig .tc .vmem S32x8192 .f32) (harg2 : arg2.IsWhole)
variable (arg3 : Memref sig .tc .vmem S1024x32 .f32) (harg3 : arg3.IsWhole)
variable (arg4 : Memref sig .tc .vmem S1024 .i32) (harg4 : arg4.IsWhole)
variable (arg5 : Memref sig .tc .vmem S1x1 .f32) (harg5 : arg5.IsWhole)
variable (arg6 : Memref sig .tc .vmem S1x8192 .f32) (harg6 : arg6.IsWhole)
variable (arg7 : Memref sig .tc .vmem S64x8192 .f32) (harg7 : arg7.IsWhole)
variable (arg8 : Memref sig .tc .vmem S1x8192 .f32) (harg8 : arg8.IsWhole)
variable (x : Vec F S1024x32 .f32) (e : Vec F S32x8192 .f32)
variable (xo : Vec F S1x1 .f32) (xs0 : Vec F S1x8192 .f32) (xs1 : Vec F S64x8192 .f32) (xs2 : Vec F S1x8192 .f32)

/-- The first point's quantised block. -/
theorem left_A_2 (hc : cond0_0 i) :
    out0_A_2 c i arg1 harg1 arg2 harg2 arg3 harg3 arg4 harg4 arg5 harg5 arg6 harg6 arg7 harg7 arg8 harg8 hc x e = k0_pay1 (k0_pay12 x e (k0_pay4 e) (augmented e)) (k0_pay13 x e (k0_pay4 e) (augmented e)) := by
  unfold out0_A_2
  rw [View.read_writes_junk_eq_canon]
  unfold kernelRun0_A
  dsimp only
  sl_unfold_words
  rw [View.canon_cons_unit_zero off2]
  unfold augmented
  simp only [View.readAt_eq_ld, harg1.read_unread, harg2.read_unread, harg5.read_unread, harg6.read_unread,
    harg7.read_unread, harg8.read_unread, View.ld_unit_zero (S := S1024x32) off2, View.ld_unit_zero (S := S32x8192) off2,
    View.ld_unit_zero (S := S1x1) off2, View.ld_unit_zero (S := S1x8192) off2, View.ld_unit_zero (S := S64x8192) off2,
    readCov_whole (S := S1x8192) _ _ off2, readCov_whole (S := S64x8192) _ _ off2, readCov_whole (S := S1x1) _ _ off2,
    View.canon_unit_zero (S := S1x8192) off2, View.canon_unit_zero (S := S1x1) off2]

/-- The first point's block of nearest indices. -/
theorem left_A_3 (hc : cond0_0 i) :
    out0_A_3 c i arg1 harg1 arg2 harg2 arg3 harg3 arg4 harg4 arg5 harg5 arg6 harg6 arg7 harg7 arg8 harg8 hc x e = k0_pay11 x e (k0_pay4 e) k0_pay7 := by
  unfold out0_A_3
  rw [View.read_writes_junk_eq_canon]
  unfold kernelRun0_A
  dsimp only
  sl_unfold_words
  rw [View.canon_cons_unit_zero off1]
  simp only [View.readAt_eq_ld, harg1.read_unread, harg2.read_unread, harg5.read_unread, harg6.read_unread,
    harg7.read_unread, harg8.read_unread, View.ld_unit_zero (S := S1024x32) off2, View.ld_unit_zero (S := S32x8192) off2,
    View.ld_unit_zero (S := S1x1) off2, View.ld_unit_zero (S := S1x8192) off2, View.ld_unit_zero (S := S64x8192) off2,
    readCov_whole (S := S1x8192) _ _ off2, readCov_whole (S := S64x8192) _ _ off2, readCov_whole (S := S1x1) _ _ off2,
    View.canon_unit_zero (S := S1x8192) off2, View.canon_unit_zero (S := S1x1) off2]

/-- The first point's loss: zero plus its block's squared error. -/
theorem left_A_4 (hc : cond0_0 i) :
    out0_A_4 c i arg1 harg1 arg2 harg2 arg3 harg3 arg4 harg4 arg5 harg5 arg6 harg6 arg7 harg7 arg8 harg8 hc x e = k0_pay2 (k0_pay3 x) (k0_pay12 x e (k0_pay4 e) (augmented e)) (k0_pay13 x e (k0_pay4 e) (augmented e)) k0_pay8 := by
  unfold out0_A_4
  rw [View.read_writes_junk_eq_canon]
  unfold kernelRun0_A
  dsimp only
  sl_unfold_words
  rw [View.canon_cons_unit_zero off2]
  unfold augmented
  simp only [View.readAt_eq_ld, harg1.read_unread, harg2.read_unread, harg5.read_unread, harg6.read_unread,
    harg7.read_unread, harg8.read_unread, View.ld_unit_zero (S := S1024x32) off2, View.ld_unit_zero (S := S32x8192) off2,
    View.ld_unit_zero (S := S1x1) off2, View.ld_unit_zero (S := S1x8192) off2, View.ld_unit_zero (S := S64x8192) off2,
    readCov_whole (S := S1x8192) _ _ off2, readCov_whole (S := S64x8192) _ _ off2, readCov_whole (S := S1x1) _ _ off2,
    View.canon_unit_zero (S := S1x8192) off2, View.canon_unit_zero (S := S1x1) off2]

/-- The first point leaves the squared norms of the codes in the first scratch buffer, -/
theorem scratch_A_0 (hc : cond0_0 i) :
    sout0_A_0 c i arg1 harg1 arg2 harg2 arg3 harg3 arg4 harg4 arg5 harg5 arg6 harg6 arg7 harg7 arg8 harg8 hc x e = (k0_pay4 e) := by
  unfold sout0_A_0
  rw [View.read_writes_junk_eq_canon]
  unfold kernelRun0_A
  dsimp only
  sl_unfold_words
  rw [View.canon_cons_unit_zero off2]
  simp only [View.readAt_eq_ld, harg1.read_unread, harg2.read_unread, harg5.read_unread, harg6.read_unread,
    harg7.read_unread, harg8.read_unread, View.ld_unit_zero (S := S1024x32) off2, View.ld_unit_zero (S := S32x8192) off2,
    View.ld_unit_zero (S := S1x1) off2, View.ld_unit_zero (S := S1x8192) off2, View.ld_unit_zero (S := S64x8192) off2,
    readCov_whole (S := S1x8192) _ _ off2, readCov_whole (S := S64x8192) _ _ off2, readCov_whole (S := S1x1) _ _ off2,
    View.canon_unit_zero (S := S1x8192) off2, View.canon_unit_zero (S := S1x1) off2]

/-- the augmented codebook in the second, -/
theorem scratch_A_1 (hc : cond0_0 i) :
    sout0_A_1 c i arg1 harg1 arg2 harg2 arg3 harg3 arg4 harg4 arg5 harg5 arg6 harg6 arg7 harg7 arg8 harg8 hc x e = augmented e := by
  unfold sout0_A_1
  rw [View.read_writes_junk_eq_canon]
  unfold kernelRun0_A
  dsimp only
  sl_unfold_words
  unfold augmented
  simp only [View.readAt_eq_ld, harg2.read_unread, View.ld_unit_zero (S := S32x8192) off2]

/-- and the column numbers in the third. -/
theorem scratch_A_2 (hc : cond0_0 i) :
    sout0_A_2 c i arg1 harg1 arg2 harg2 arg3 harg3 arg4 harg4 arg5 harg5 arg6 harg6 arg7 harg7 arg8 harg8 hc x e = k0_pay7 := by
  unfold sout0_A_2
  rw [View.read_writes_junk_eq_canon]
  unfold kernelRun0_A
  dsimp only
  sl_unfold_words
  rw [View.canon_cons_unit_zero off2]

/-- A later point's quantised block, from the scratch contents it finds. -/
theorem left_B_2 (hc : ¬cond0_0 i) :
    out0_B_2 c i arg1 harg1 arg2 harg2 arg3 harg3 arg4 harg4 arg5 harg5 arg6 harg6 arg7 harg7 arg8 harg8 hc x e xo xs0 xs1 xs2 = k0_pay1 (k0_pay12 x e xs0 xs1) (k0_pay13 x e xs0 xs1) := by
  unfold out0_B_2
  rw [View.read_writes_junk_eq_canon]
  unfold kernelRun0_B
  dsimp only
  sl_unfold_words
  rw [View.canon_cons_unit_zero off2]
  simp only [View.readAt_eq_ld, harg1.read_unread, harg2.read_unread, harg5.read_unread, harg6.read_unread,
    harg7.read_unread, harg8.read_unread, View.ld_unit_zero (S := S1024x32) off2, View.ld_unit_zero (S := S32x8192) off2,
    View.ld_unit_zero (S := S1x1) off2, View.ld_unit_zero (S := S1x8192) off2, View.ld_unit_zero (S := S64x8192) off2,
    readCov_whole (S := S1x8192) _ _ off2, readCov_whole (S := S64x8192) _ _ off2, readCov_whole (S := S1x1) _ _ off2,
    View.canon_unit_zero (S := S1x8192) off2, View.canon_unit_zero (S := S1x1) off2]

/-- A later point's block of nearest indices. -/
theorem left_B_3 (hc : ¬cond0_0 i) :
    out0_B_3 c i arg1 harg1 arg2 harg2 arg3 harg3 arg4 harg4 arg5 harg5 arg6 harg6 arg7 harg7 arg8 harg8 hc x e xo xs0 xs1 xs2 = k0_pay11 x e xs0 xs2 := by
  unfold out0_B_3
  rw [View.read_writes_junk_eq_canon]
  unfold kernelRun0_B
  dsimp only
  sl_unfold_words
  rw [View.canon_cons_unit_zero off1]
  simp only [View.readAt_eq_ld, harg1.read_unread, harg2.read_unread, harg5.read_unread, harg6.read_unread,
    harg7.read_unread, harg8.read_unread, View.ld_unit_zero (S := S1024x32) off2, View.ld_unit_zero (S := S32x8192) off2,
    View.ld_unit_zero (S := S1x1) off2, View.ld_unit_zero (S := S1x8192) off2, View.ld_unit_zero (S := S64x8192) off2,
    readCov_whole (S := S1x8192) _ _ off2, readCov_whole (S := S64x8192) _ _ off2, readCov_whole (S := S1x1) _ _ off2,
    View.canon_unit_zero (S := S1x8192) off2, View.canon_unit_zero (S := S1x1) off2]

/-- A later point's loss: the loss it finds plus its block's squared error. -/
theorem left_B_4 (hc : ¬cond0_0 i) :
    out0_B_4 c i arg1 harg1 arg2 harg2 arg3 harg3 arg4 harg4 arg5 harg5 arg6 harg6 arg7 harg7 arg8 harg8 hc x e xo xs0 xs1 xs2 = k0_pay2 (k0_pay3 x) (k0_pay12 x e xs0 xs1) (k0_pay13 x e xs0 xs1) xo := by
  unfold out0_B_4
  rw [View.read_writes_junk_eq_canon]
  unfold kernelRun0_B
  dsimp only
  sl_unfold_words
  rw [View.canon_cons_unit_zero off2]
  simp only [View.readAt_eq_ld, harg1.read_unread, harg2.read_unread, harg5.read_unread, harg6.read_unread,
    harg7.read_unread, harg8.read_unread, View.ld_unit_zero (S := S1024x32) off2, View.ld_unit_zero (S := S32x8192) off2,
    View.ld_unit_zero (S := S1x1) off2, View.ld_unit_zero (S := S1x8192) off2, View.ld_unit_zero (S := S64x8192) off2,
    readCov_whole (S := S1x8192) _ _ off2, readCov_whole (S := S64x8192) _ _ off2, readCov_whole (S := S1x1) _ _ off2,
    View.canon_unit_zero (S := S1x8192) off2, View.canon_unit_zero (S := S1x1) off2]

end Cert.Proof.Ker

end
-- ==== Proof.KernelRun.lean ====
/-
  What the kernel's grid leaves: every point's output blocks and scratch in closed form (by induction on the point),
  and the three result arrays after the last point.
-/
module

public import proofs.«01_k».proof.Proof.KernelCase
public import Idealize.ShloMosaic.Lib.Pointwise
public import Idealize.ShloMosaic.Lib.Pipeline.ValueKit

@[expose] public section

set_option maxRecDepth 16384

noncomputable section

namespace Cert.Proof.Ker

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ)

/-- The block of input vectors that point `t` reads. -/
abbrev xBlk (c : Dev nD) (t : Fin cfg0.N) : Vec F S1024x32 .f32 := iblk m c 0 t

/-- The codebook, as the launch finds it. -/
abbrev codes (c : Dev nD) : Vec F S32x8192 .f32 := m ((c : Thread nD τ).loc main_arg1)

/-- Window 1 reads the whole codebook at every point. -/
theorem iblk_codes (c : Dev nD) (t : Fin cfg0.N) : (iblk m c 1 t : Vec F S32x8192 .f32) = codes m c := by
  have hi : win0_1.index t 0 = 0 ∧ win0_1.index t 1 = 0 := by
    rcases fin_N0 t with rfl | rfl | rfl | rfl | rfl | rfl | rfl | rfl <;> decide
  unfold codes
  rw [← V_main_arg1 m c]
  funext j
  unfold iblk
  rw [View.read_apply]
  show V m c main_arg1 _ = V m c main_arg1 _
  congr 1
  funext a
  apply Fin.ext
  match a with
  | ⟨0, _⟩ => show win0_1.index t 0 * 32 + 1 * (j 0).val = (j 0).val; rw [hi.1]; omega
  | ⟨1, _⟩ => show win0_1.index t 1 * 8192 + 1 * (j 1).val = (j 1).val; rw [hi.2]; omega

/-- The quantised block of input block `x` against the codes `e`. -/
def qOf (x : Vec F S1024x32 .f32) (e : Vec F S32x8192 .f32) : Vec F S1024x32 .f32 :=
  k0_pay1 (k0_pay12 x e (k0_pay4 e) (augmented e)) (k0_pay13 x e (k0_pay4 e) (augmented e))

/-- The nearest-code indices of input block `x` against the codes `e`. -/
def indOf (x : Vec F S1024x32 .f32) (e : Vec F S32x8192 .f32) : Vec F S1024 .i32 :=
  k0_pay11 x e (k0_pay4 e) k0_pay7

/-- The loss `o` plus the squared error of input block `x` against the codes `e`. -/
def lossOf (x : Vec F S1024x32 .f32) (e : Vec F S32x8192 .f32) (o : Vec F S1x1 .f32) : Vec F S1x1 .f32 :=
  k0_pay2 (k0_pay3 x) (k0_pay12 x e (k0_pay4 e) (augmented e)) (k0_pay13 x e (k0_pay4 e) (augmented e)) o

/-- The loss after point `n`: the blocks' squared errors added in order from zero. -/
def lossAt (c : Dev nD) : (n : ℕ) → n < cfg0.N → Vec F S1x1 .f32
  | 0, h => lossOf (xBlk m c ⟨0, h⟩) (codes m c) k0_pay8
  | n + 1, h => lossOf (xBlk m c ⟨n + 1, h⟩) (codes m c) (lossAt c n (Nat.lt_of_succ_lt h))

/-- What point `n` leaves: its quantised block, its block of indices, the running loss, and the scratch of the first. -/
def leaves (c : Dev nD) (n : ℕ) (h : n < cfg0.N) :
    Vec F S1024x32 .f32 × Vec F S1024 .i32 × Vec F S1x1 .f32 × Vec F S1x8192 .f32 × Vec F S64x8192 .f32 × Vec F S1x8192 .f32 :=
  (qOf (xBlk m c ⟨n, h⟩) (codes m c), indOf (xBlk m c ⟨n, h⟩) (codes m c), lossAt m c n h,
    k0_pay4 (codes m c), augmented (codes m c), k0_pay7)

/-- The first point. -/
theorem outsAt_zero (c : Dev nD) (h : 0 < cfg0.N) : outsAt0 m c 0 h = leaves m c 0 h := by
  refine (outsAt0_A m c ⟨0, h⟩ rfl).trans ?_
  rw [left_A_2, left_A_3, left_A_4, scratch_A_0, scratch_A_1, scratch_A_2, iblk_codes]
  unfold leaves qOf indOf lossAt lossOf
  rfl

/-- A later point, from what the point before it left. -/
theorem outsAt_succ (c : Dev nD) (n : ℕ) (h : n + 1 < cfg0.N)
    (ih : outsAt0 m c n (Nat.lt_of_succ_lt h) = leaves m c n (Nat.lt_of_succ_lt h)) :
    outsAt0 m c (n + 1) h = leaves m c (n + 1) h := by
  have hN : cfg0.N = 8 := N_0
  have hB : ¬(⟨n + 1, h⟩ : Fin cfg0.N).val % 8 = 0 := by dsimp only; omega
  have e := outsAt0_B m c ⟨n + 1, h⟩ hB
  rw [left_B_2, left_B_3, left_B_4] at e
  unfold sout0_B_0 sout0_B_1 sout0_B_2 at e
  have hp : ∀ h', outsAt0 m c ((⟨n + 1, h⟩ : Fin cfg0.N).val - 1) h' = leaves m c n (Nat.lt_of_succ_lt h) := fun _ => ih
  simp only [hp, iblk_codes] at e
  refine e.trans ?_
  have hl : lossAt m c (n + 1) h = lossOf (xBlk m c ⟨n + 1, h⟩) (codes m c) (lossAt m c n (Nat.lt_of_succ_lt h)) := rfl
  have hs : ∀ k hk, leaves m c k hk = (qOf (xBlk m c ⟨k, hk⟩) (codes m c), indOf (xBlk m c ⟨k, hk⟩) (codes m c), lossAt m c k hk,
    k0_pay4 (codes m c), augmented (codes m c), k0_pay7) := fun _ _ => rfl
  rw [hs, hs, hl]
  dsimp only
  unfold qOf indOf lossOf
  with_reducible rfl

/-- So every point, by induction. -/
theorem outsAt_eq (c : Dev nD) (n : ℕ) (h : n < cfg0.N) : outsAt0 m c n h = leaves m c n h := by
  induction n with
  | zero => exact outsAt_zero m c h
  | succ n ih => exact outsAt_succ m c n h (ih _)

/-! ## The result arrays -/

/-- The array of quantised vectors: row `n` is row `n % 1024` of block `n / 1024`. -/
def qArr (c : Dev nD) : Vec F S8192x32 .f32 := fun j =>
  qOf (xBlk m c ⟨(j 0).val / 1024, by have := (j 0).isLt; have hN : cfg0.N = 8 := N_0; rw [hN]; change (j 0).val < 8192 at this; omega⟩)
    (codes m c) (Idealize.ShloMosaic.ix2 ⟨(j 0).val % 1024, Nat.mod_lt _ (by decide)⟩ (j 1))

/-- The array of nearest-code indices, likewise. -/
def indArr (c : Dev nD) : Vec F S8192 .i32 := fun j =>
  indOf (xBlk m c ⟨(j 0).val / 1024, by have := (j 0).isLt; have hN : cfg0.N = 8 := N_0; rw [hN]; change (j 0).val < 8192 at this; omega⟩)
    (codes m c) (Idealize.ShloMosaic.ix1 ⟨(j 0).val % 1024, Nat.mod_lt _ (by decide)⟩)

/-- The loss array: the running loss after the last point. -/
def lossArr (c : Dev nD) : Vec F S1x1 .f32 := lossAt m c 7 (by rw [show cfg0.N = 8 from N_0]; decide)

/-- An element of the quantised array, by its block and its place in the block. -/
theorem qArr_at (c : Dev nD) (t : Fin cfg0.N) (y : S1024x32.Idx) (j : S8192x32.Idx)
    (h0 : (j 0).val = t.val * 1024 + (y 0).val) (h1 : (j 1).val = (y 1).val) :
    qArr m c j = qOf (xBlk m c t) (codes m c) y := by
  have hy : (y 0).val < 1024 := (y 0).isLt
  have ht : ∀ h, (⟨(j 0).val / 1024, h⟩ : Fin cfg0.N) = t := fun h => Fin.ext (by show (j 0).val / 1024 = t.val; omega)
  have hz : (ix2 ⟨(j 0).val % 1024, Nat.mod_lt _ (by decide)⟩ (j 1) : S1024x32.Idx) = y := by
    funext a
    apply Fin.ext
    match a with
    | ⟨0, _⟩ => show (j 0).val % 1024 = (y 0).val; omega
    | ⟨1, _⟩ => exact h1
  unfold qArr
  rw [ht, hz]

/-- An element of the array of indices, likewise. -/
theorem indArr_at (c : Dev nD) (t : Fin cfg0.N) (y : S1024.Idx) (j : S8192.Idx)
    (h0 : (j 0).val = t.val * 1024 + (y 0).val) :
    indArr m c j = indOf (xBlk m c t) (codes m c) y := by
  have hy : (y 0).val < 1024 := (y 0).isLt
  have ht : ∀ h, (⟨(j 0).val / 1024, h⟩ : Fin cfg0.N) = t := fun h => Fin.ext (by show (j 0).val / 1024 = t.val; omega)
  have hz : (ix1 ⟨(j 0).val % 1024, Nat.mod_lt _ (by decide)⟩ : S1024.Idx) = y := by
    funext a
    apply Fin.ext
    match a with
    | ⟨0, _⟩ => show (j 0).val % 1024 = (y 0).val; omega
  unfold indArr
  rw [ht, hz]

/-- The array of quantised vectors after the run. -/
theorem final_q (c : Dev nD) : (dats m 0 c).arrAt 2 cfg0.N = qArr m c := by
  have e : ∀ t : Fin cfg0.N, win0_2.index t = ![t.val, 0] := (by decide +kernel : ∀ t : Fin grid0.N, _)
  refine (dats m 0 c).arrAt_eq_of_covers 2 _ (by decide +kernel) fun t hf y => ?_
  blk_simp
  rw [after0_2, outsAt_eq]
  refine (qArr_at m c t y _ ?_ ?_).symm
  · blk_simp [e]
  · blk_simp [e]

/-- The array of indices after the run. -/
theorem final_ind (c : Dev nD) : (dats m 0 c).arrAt 3 cfg0.N = indArr m c := by
  have e : ∀ t : Fin cfg0.N, win0_3.index t = ![t.val] := (by decide +kernel : ∀ t : Fin grid0.N, _)
  refine (dats m 0 c).arrAt_eq_of_covers 3 _ (by decide +kernel) fun t hf y => ?_
  blk_simp
  rw [after0_3, outsAt_eq]
  refine (indArr_at m c t y _ ?_).symm
  blk_simp [e]

/-- The loss array after the run: the last point's. -/
theorem final_loss (c : Dev nD) : (dats m 0 c).arrAt 4 cfg0.N = lossArr m c := by
  have e : ∀ t : Fin cfg0.N, win0_4.index t = ![0, 0] := (by decide +kernel : ∀ t : Fin grid0.N, _)
  have hN : cfg0.N = 8 := N_0
  refine (dats m 0 c).arrAt_eq_of_covers 4 _ (by decide +kernel) fun t hf y => ?_
  have h7 : t.val = 7 := by have := (flush0_4 t).mp hf; have : t.val < cfg0.N := t.isLt; omega
  obtain rfl : t = t0_7 := Fin.ext h7
  blk_simp
  rw [after0_4, outsAt_eq]
  show lossArr m c y = lossArr m c _
  congr 1
  funext a
  apply Fin.ext
  match a with
  | ⟨0, _⟩ => blk_simp [e]
  | ⟨1, _⟩ => blk_simp [e]

/-- The input as the region finds it: the argument reshaped to one row per vector. -/
theorem V_rows (c : Dev nD) : V m c main_v0 =
    shapeCast S8192x32 (m ((c : Thread nD τ).loc main_arg0)) shapeCasts_S8x1024x32_S8192x32 := by
  show StableHlo.after hostOps0 (fun b => m (c, b)) (Proc.tc.devRef main_v0) = _
  after_results
  rfl

/-- Row `1024 b + r` of the reshaped input is vector `(b, r)`. -/
theorem rows_apply (X : Vec F S8x1024x32 .f32) (b : Fin 8) (r : Fin 1024) (j : Fin 32) (n : Fin 8192)
    (hn : n.val = b.val * 1024 + r.val) :
    shapeCast S8192x32 X shapeCasts_S8x1024x32_S8192x32 (ix2 n j) = X (ix3 b r j) := by
  pointwise
  congr 2 <;> apply Fin.ext <;> simp <;> omega

/-- Point `t` reads rows `1024 t …` of the reshaped input. -/
theorem xBlk_apply (c : Dev nD) (t : Fin cfg0.N) (b : Fin 8) (hb : b.val = t.val) (r : Fin 1024) (j : Fin 32) :
    xBlk m c t (ix2 r j) = (m ((c : Thread nD τ).loc main_arg0) : Vec F S8x1024x32 .f32) (ix3 b r j) := by
  have e : ∀ t : Fin cfg0.N, win0_0.index t = ![t.val, 0] := (by decide +kernel : ∀ t : Fin grid0.N, _)
  have hi : (win0_0.blk t).view.emb (ix2 r j) = ix2 (⟨t.val * 1024 + r.val, by have := r.isLt; have := b.isLt; omega⟩ : Fin 8192) j := by
    funext a
    apply Fin.ext
    match a with
    | ⟨0, _⟩ => blk_simp [e]
    | ⟨1, _⟩ => blk_simp [e]
  blk_simp [xBlk, iblk]
  rw [hi, V_rows]
  exact rows_apply _ b r j _ (by show t.val * 1024 + r.val = _; omega)

/-! ## The host operations after the grid -/

/-- The kernel's first result: the quantised array in the input's shape. -/
def resQ (c : Dev nD) : Vec F S8x1024x32 .f32 := shapeCast S8x1024x32 (qArr m c) shapeCasts_S8192x32_S8x1024x32

/-- The kernel's second result: the loss over the number of elements. -/
def resL (c : Dev nD) : Vec F S_ .f32 :=
  Host.divf (shapeCast S_ (lossArr m c) shapeCasts_S1x1_S_) (constant S_ .f32 0x48800000#32)

/-- The kernel's third result: the indices in the input's shape. -/
def resI (c : Dev nD) : Vec F S8x1024 .i32 := shapeCast S8x1024 (indArr m c) shapeCasts_S8192_S8x1024

theorem tail_v2 (W : Valuation τ sig (Elt F)) : StableHlo.after hostOps1 W (Proc.tc.devRef main_v2) =
    (shapeCast S8x1024x32 (W (Proc.tc.devRef main_v1_0) : Vec F S8192x32 .f32) shapeCasts_S8192x32_S8x1024x32 : Vec F S8x1024x32 .f32) := by
  after_results
  rfl

theorem tail_v4 (W : Valuation τ sig (Elt F)) : StableHlo.after hostOps1 W (Proc.tc.devRef main_v4) =
    (Host.divf (shapeCast S_ (W (Proc.tc.devRef main_v1_2) : Vec F S1x1 .f32) shapeCasts_S1x1_S_) (constant S_ .f32 0x48800000#32) : Vec F S_ .f32) := by
  after_results
  rfl

theorem tail_v5 (W : Valuation τ sig (Elt F)) : StableHlo.after hostOps1 W (Proc.tc.devRef main_v5) =
    (shapeCast S8x1024 (W (Proc.tc.devRef main_v1_1) : Vec F S8192 .i32) shapeCasts_S8192_S8x1024 : Vec F S8x1024 .i32) := by
  after_results
  rfl

/-- The array references of the kernel's windows are distinct. -/
theorem arrs_inj : Function.Injective (Pipeline.arrRef spec0) := by decide

/-- The run: every fair execution of the kernel program ends with the three results above, the arguments unchanged. -/
theorem run (ρ : Dev nD → PrngReg) : θ_run defs (onTc (τ := τ) (main (F := F))) ⟨m, fun _ => 0, ρ⟩ fun r => ∀ c : Dev nD,
      r.2.mem ((c : Thread nD τ).loc main_v2) = resQ m c
      ∧ r.2.mem ((c : Thread nD τ).loc main_v4) = resL m c
      ∧ r.2.mem ((c : Thread nD τ).loc main_v5) = resI m c
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_main m ρ)
  have a2 := (Pipeline.withArrays_arr spec0 arrs_inj c (V0 m c) (fun w => (dats m 0 c).arrAt w cfg0.N) 2).trans (final_q m c)
  have a3 := (Pipeline.withArrays_arr spec0 arrs_inj c (V0 m c) (fun w => (dats m 0 c).arrAt w cfg0.N) 3).trans (final_ind m c)
  have a4 := (Pipeline.withArrays_arr spec0 arrs_inj c (V0 m c) (fun w => (dats m 0 c).arrAt w cfg0.N) 4).trans (final_loss m c)
  refine ⟨?_, ?_, ?_, ?_, ?_⟩
  · refine ((h c).2 main_v2 (Pipeline.mem_restRefs_of main_v2 (by decide) (by decide))).trans ?_
    refine (tail_v2 _).trans ?_
    exact congrArg (fun v => (shapeCast S8x1024x32 v shapeCasts_S8192x32_S8x1024x32 : Vec F S8x1024x32 .f32)) a2
  · refine ((h c).2 main_v4 (Pipeline.mem_restRefs_of main_v4 (by decide) (by decide))).trans ?_
    refine (tail_v4 _).trans ?_
    exact congrArg (fun v => (Host.divf (shapeCast S_ v shapeCasts_S1x1_S_) (constant S_ .f32 0x48800000#32) : Vec F S_ .f32)) a4
  · refine ((h c).2 main_v5 (Pipeline.mem_restRefs_of main_v5 (by decide) (by decide))).trans ?_
    refine (tail_v5 _).trans ?_
    exact congrArg (fun v => (shapeCast S8x1024 v shapeCasts_S8192_S8x1024 : Vec F S8x1024 .i32)) a3
  · exact ((h c).2 main_arg0 (Pipeline.mem_restRefs_of main_arg0 (by decide) (by decide))).trans (W_main_arg0 m (dats m) c)
  · exact ((h c).1 1).trans (((dats m 0 c).arrAt_in 1 rfl _).trans ((A_eq m c 1).trans (V_main_arg1 m c)))

end Cert.Proof.Ker

end
-- ==== Proof.Math.lean ====
/-
  The mathematics shared by the kernel and the reference, over the reals: squared distances of one vector to every code,
  the soft assignment, and the nearest code; with the facts that carry real sums and minima into the extended reals.
-/
module

public import Idealize.ShloMosaic.Lib.Pointwise

@[expose] public section

noncomputable section

namespace Cert.Proof.Soft

open Idealize.ShloMosaic

/-- The squared distance of the vector `x` to code `k`, expanded. -/
def sqDist (x : Fin 32 → ℝ) (E : Fin 32 → Fin 8192 → ℝ) (k : Fin 8192) : ℝ :=
  ∑ j, x j * x j - ∑ j, 2 * x j * E j k + ∑ j, E j k * E j k

/-- The unnormalised soft weight of a code at squared distance `d k`. -/
def wt (d : Fin 8192 → ℝ) (k : Fin 8192) : ℝ := Real.exp (-(d k) / 4)

/-- The softly assigned mean of `v`. -/
def mean (d v : Fin 8192 → ℝ) : ℝ := (∑ k, wt d k * v k) / ∑ k, wt d k

/-- `i` is the first of the nearest codes. -/
def IsNearest (d : Fin 8192 → ℝ) (i : Fin 8192) : Prop := (∀ k, d i ≤ d k) ∧ ∀ k, d k ≤ d i → i ≤ k

/-- There is a nearest code. -/
theorem exists_nearest (d : Fin 8192 → ℝ) : ∃ i, IsNearest d i := by
  obtain ⟨a, -, ha⟩ := Finset.exists_min_image Finset.univ d ⟨0, Finset.mem_univ _⟩
  have hne : (Finset.univ.filter fun k => d k ≤ d a).Nonempty := ⟨a, by simp⟩
  refine ⟨(Finset.univ.filter fun k => d k ≤ d a).min' hne, ?_, ?_⟩
  · intro k
    have h := Finset.min'_mem _ hne
    rw [Finset.mem_filter] at h
    exact h.2.trans (ha k (Finset.mem_univ _))
  · intro k hk
    refine Finset.min'_le _ _ ?_
    have h := Finset.min'_mem _ hne
    rw [Finset.mem_filter] at h ⊢
    exact ⟨Finset.mem_univ _, hk.trans h.2⟩

/-- The soft weights are positive, -/
theorem wt_pos (d : Fin 8192 → ℝ) (k : Fin 8192) : 0 < wt d k := Real.exp_pos _

/-- and so is their sum. -/
theorem sum_wt_pos (d : Fin 8192 → ℝ) : 0 < ∑ k, wt d k :=
  Finset.sum_pos (fun k _ => wt_pos d k) ⟨0, Finset.mem_univ _⟩

/-- A sum of reals, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A running minimum from `b` is the value at a least point, when that value is at most `b`. -/
theorem fold_min_eq {ι : Type} [Fintype ι] (b : EReal) (f : ι → EReal) (i : ι) (h : ∀ k, f i ≤ f k) (hb : f i ≤ b) :
    Finset.fold min b f Finset.univ = f i := by
  apply le_antisymm
  · exact (Finset.fold_min_le _).mpr (Or.inr ⟨i, Finset.mem_univ _, le_rfl⟩)
  · exact (Finset.le_fold_min _).mpr ⟨hb, fun k _ => h k⟩

/-- A running maximum of reals from below is some real. -/
theorem fold_max_real {ι : Type} [Fintype ι] [Nonempty ι] (f : ι → ℝ) :
    ∃ M : ℝ, Finset.fold max (⊥ : EReal) (fun k => ((f k : ℝ) : EReal)) Finset.univ = (M : EReal) := by
  obtain ⟨a, -, ha⟩ := Finset.exists_max_image Finset.univ f Finset.univ_nonempty
  refine ⟨f a, le_antisymm ?_ ?_⟩
  · exact (Finset.fold_max_le _).mpr ⟨bot_le, fun k hk => EReal.coe_le_coe_iff.mpr (ha k hk)⟩
  · exact (Finset.le_fold_max _).mpr (Or.inr ⟨a, Finset.mem_univ _, le_rfl⟩)

/-- A quotient of reals, taken in the extended reals. -/
theorem coe_div {y : ℝ} (x : ℝ) (h : y ≠ 0) : Ideal.div (x : EReal) (y : EReal) = ((x / y : ℝ) : EReal) := by
  rw [Ideal.div_coe h, ← EReal.coe_mul]
  congr 1
  ring

/-- The kernel's scaled power of two is the soft weight. -/
theorem exp2_scaled (t : ℝ) : Real.rpow 2 (t * (-((4 * Real.log 2)⁻¹))) = Real.exp (-t / 4) := by
  have hl : Real.log 2 ≠ 0 := (Real.log_pos (by norm_num)).ne'
  show (2 : ℝ) ^ (t * (-((4 * Real.log 2)⁻¹))) = _
  rw [Real.rpow_def_of_pos (by norm_num)]
  congr 1
  field_simp

/-- Shifting every logit by the same real leaves the mean unchanged. -/
theorem mean_shift (d v : Fin 8192 → ℝ) (M : ℝ) :
    ∑ k, Real.exp (-(d k) / 4 - M) / (∑ k, Real.exp (-(d k) / 4 - M)) * v k = mean d v := by
  have hM : Real.exp (-M) ≠ 0 := (Real.exp_pos _).ne'
  have hS := (sum_wt_pos d).ne'
  have e : ∀ k, Real.exp (-(d k) / 4 - M) = wt d k * Real.exp (-M) := fun k => by
    rw [wt, ← Real.exp_add]; ring_nf
  simp only [e, ← Finset.sum_mul]
  unfold mean
  rw [Finset.sum_div]
  refine Finset.sum_congr rfl fun k _ => ?_
  field_simp

/-- The first nearest code's number, as the least of the numbers of the codes at the least distance. -/
theorem fold_min_index (d : Fin 8192 → ℝ) (i : Fin 8192) (h : IsNearest d i) (p : Fin 8192 → EReal)
    (hp : ∀ k, p k = if d k = d i then (((k : ℕ) : ℝ) : EReal) else ((8192 : ℝ) : EReal)) :
    Finset.fold min ⊤ p Finset.univ = (((i : ℕ) : ℝ) : EReal) := by
  have hi : p i = (((i : ℕ) : ℝ) : EReal) := by rw [hp, if_pos rfl]
  rw [← hi]
  refine fold_min_eq _ _ i (fun k => ?_) le_top
  rw [hi, hp]
  split
  · next hk => exact EReal.coe_le_coe_iff.mpr (Nat.cast_le.mpr (h.2 k hk.le))
  · exact EReal.coe_le_coe_iff.mpr (by have := i.isLt; exact_mod_cast this.le)

/-- Truncation of a small whole number to a word is that number. -/
theorem fptosi_small (i : Fin 8192) : Ideal.fptosi 32 ((((i : ℕ) : ℝ) : EReal)) = BitVec.ofNat 32 i := by
  have := i.isLt
  have h : max (-(2 ^ (32 - 1) : Nat) : Int) (min (((2 ^ (32 - 1) : Nat) : Int) - 1) ((i : ℕ) : Int)) = ((i : ℕ) : Int) := by
    norm_num
    omega
  rw [Ideal.fptosi, Ideal.toIntClamped_coe, if_pos (Nat.cast_nonneg _), Int.floor_natCast, h, BitVec.ofInt_natCast]

/-! ## The constants of the two programs -/

/-- A product of reals, taken in the extended reals. -/
theorem mul_real {a b c : ℝ} (h : a * b = c) : (a : EReal) * (b : EReal) = (c : EReal) := by
  rw [← EReal.coe_mul, h]

theorem bits_two : Ideal.ofBits .f32 0x40000000#32 = ((2 : ℝ) : EReal) := by
  simp [Ideal.ofBits, Ideal.ieee]
  exact mul_real (by norm_num)

theorem bits_neg_two : Ideal.ofBits .f32 0xC0000000#32 = ((-2 : ℝ) : EReal) := by
  simp [Ideal.ofBits, Ideal.ieee]
  exact mul_real (by norm_num)

theorem bits_four : Ideal.ofBits .f32 0x40800000#32 = ((4 : ℝ) : EReal) := by
  simp [Ideal.ofBits, Ideal.ieee]
  exact mul_real (by norm_num)

theorem bits_count : Ideal.ofBits .f32 0x46000000#32 = ((8192 : ℝ) : EReal) := by
  simp [Ideal.ofBits, Ideal.ieee]
  exact mul_real (by norm_num)

theorem bits_size : Ideal.ofBits .f32 0x48800000#32 = ((262144 : ℝ) : EReal) := by
  simp [Ideal.ofBits, Ideal.ieee]
  exact mul_real (by norm_num)

theorem bits_one : Ideal.ofBits .f32 0x3F800000#32 = ((1 : ℝ) : EReal) := by
  simp [Ideal.ofBits, Ideal.ieee]
  exact (mul_real (c := 1) (by norm_num)).trans EReal.coe_one

theorem bits_top : Ideal.ofBits .f32 0x7F800000#32 = ⊤ := by
  simp [Ideal.ofBits, Ideal.ieee]

theorem bits_bot : Ideal.ofBits .f32 0xFF800000#32 = ⊥ := by
  simp [Ideal.ofBits, Ideal.ieee]

end Cert.Proof.Soft

end
-- ==== Proof.KernelBlock.lean ====
/-
  What one block of the kernel computes, over the reals: the distances, the quantised vectors, the nearest codes and
  the squared error of a block of real vectors against a codebook of real numbers.
-/
module

public import proofs.«01_k».proof.Proof.KernelRun
public import proofs.«01_k».proof.Proof.Math

@[expose] public section

set_option maxRecDepth 16384

noncomputable section

namespace Cert.Proof.Ker

open Cert.KernelIdeal Cert.KernelIdeal.Gen Cert.Proof.Soft
open Idealize.ShloMosaic Idealize.ShloMosaic.TcCoe Idealize.SL.Sem

variable (x : Vec Ideal S1024x32 .f32) (e : Vec Ideal S32x8192 .f32)

/-! ## The scratch -/

/-- The first scratch buffer: the squared norm of every code. -/
theorem norms_apply (k : Fin 8192) : k0_pay4 e (ix2 0 k) = ∑ j, e (ix2 j k) * e (ix2 j k) := by
  pointwise [k0_pay4]

/-- The third scratch buffer: the column numbers. -/
theorem cols_apply (k : Fin 8192) : k0_pay7 (F := Ideal) (ix2 0 k) = (((k : ℕ) : ℝ) : EReal) := by
  pointwise [k0_pay7]
  have hk := k.isLt
  have h : (BitVec.ofNat 32 (k : ℕ)).toInt = ((k : ℕ) : Int) := by
    rw [BitVec.toInt_eq_toNat_of_lt] <;> simp only [BitVec.toNat_ofNat] <;> omega
  show ((((BitVec.ofNat 32 (k : ℕ)).toInt : ℤ) : ℝ) : EReal) = _
  rw [h, Int.cast_natCast]

/-- The marker test, row by row. -/
theorem mark : ∀ r : Fin 64, IntOp.cmpi CmpIPredicate.eq (BitVec.ofNat 32 r.val) 32#32 = if r.val = 32 then 1#1 else 0#1 := by
  decide

/-- The marker rows: one on row 32, zero elsewhere. -/
theorem markers_apply (r : Fin 64) (k : Fin 8192) :
    k0_pay5 (F := Ideal) (ix2 r k) = if r.val = 32 then ((1 : ℝ) : EReal) else 0 := by
  pointwise [k0_pay5]
  rw [mark r]
  by_cases h : r.val = 32
  · rw [if_pos h, if_pos h]; exact EReal.coe_one.symm
  · rw [if_neg h, if_neg h]; rfl

/-- Rows below 32 of the augmented codebook are the codes, -/
theorem augmented_code (j : Fin 32) (k : Fin 8192) (r : Fin 64) (hr : r.val = j.val) :
    augmented e (ix2 r k) = e (ix2 j k) := by
  have he : (Rect.unit (s := S64x8192) ![0, 0] ![32, 8192] (by decide)).emb (ix2 j k) = ix2 r k := by
    funext a
    apply Fin.ext
    match a with
    | ⟨0, _⟩ => show 0 + 1 * j.val = r.val; omega
    | ⟨1, _⟩ => show 0 + 1 * k.val = k.val; omega
  unfold augmented
  rw [← he]
  refine (View.canon_cons_emb _ _ _ _).trans ?_
  pointwise [k0_pay6]

/-- and row 32 is all ones. -/
theorem augmented_one (k : Fin 8192) : augmented e (ix2 32 k) = ((1 : ℝ) : EReal) := by
  unfold augmented
  rw [View.canon_cons_of_not_mem, View.canon_unit_zero off2, markers_apply]
  · exact if_pos rfl
  rw [Rect.mem_set_unit]
  intro h
  have h0 : (32 : ℕ) < 0 + 32 := (h 0).2
  omega

/-! ## Distances, weights, means -/

/-- The kernel's distance of row `r` to code `k`. -/
theorem dist_apply (s0 : Vec Ideal S1x8192 .f32) (r : Fin 1024) (k : Fin 8192) :
    k0_pay9 x e s0 (ix2 r k) = ∑ j, x (ix2 r j) * x (ix2 r j)
      + ∑ j, x (ix2 r j) * Ideal.ofBits .f32 0xC0000000#32 * e (ix2 j k) + s0 (ix2 0 k) := by
  pointwise [k0_pay9, k0_pay3]

/-- The named constant's value. -/
theorem named_scale : Named.named (F := Ideal) (φ := .f32) κ "neg_log2e_quarter" 0xBEB8AA3B#32 = (((-((4 * (Real.log 2))⁻¹) : ℝ) : EReal) : Ideal .f32) :=
  IdealRules.named_const.ideal_named_scalar _ _ _ _ rfl

/-- Column `c` of the kernel's product with the augmented codebook. -/
theorem prod_apply (s0 : Vec Ideal S1x8192 .f32) (s1 : Vec Ideal S64x8192 .f32) (r : Fin 1024) (c : Fin 64) :
    k0_pay10 x e s0 s1 (ix2 r c) = ∑ k, Ideal.exp2 (k0_pay9 x e s0 (ix2 r k) * ((-((4 * (Real.log 2))⁻¹) : ℝ) : EReal)) * s1 (ix2 c k) := by
  pointwise [k0_pay10]
  refine Finset.sum_congr rfl fun k _ => ?_
  rw [named_scale]
  rfl

/-- The quantised block, from the product. -/
theorem q_apply (r : Fin 1024) (j : Fin 32) (c : Fin 64) (hc : c.val = j.val) :
    qOf x e (ix2 r j) = Ideal.div (k0_pay10 x e (k0_pay4 e) (augmented e) (ix2 r c))
      (k0_pay10 x e (k0_pay4 e) (augmented e) (ix2 r 32)) := by
  unfold qOf
  pointwise [k0_pay1, k0_pay12, k0_pay13]
  have h : (⟨j.val, by have := j.isLt; omega⟩ : Fin 64) = c := Fin.ext hc.symm
  rw [h]

/-- The block of indices: the least of the numbers of the codes at the least distance. -/
theorem ind_apply (r : Fin 1024) :
    indOf x e (ix1 r) = FloatOps.fptosi (F := Ideal) (φ := .f32) 32 (Finset.fold min (Ideal.ofBits .f32 0x7F800000#32) (fun y =>
      if k0_pay9 x e (k0_pay4 e) (ix2 r y) = Finset.fold min (Ideal.ofBits .f32 0x7F800000#32) (fun z => k0_pay9 x e (k0_pay4 e) (ix2 r z)) Finset.univ
      then k0_pay7 (F := Ideal) (ix2 0 y) else Ideal.ofBits .f32 0x46000000#32) Finset.univ) := by
  unfold indOf
  pointwise [k0_pay11]

/-- The running loss after a block. -/
theorem loss_apply (o : Vec Ideal S1x1 .f32) :
    lossOf x e o (ix2 0 0) = o (ix2 0 0) + ∑ r : Fin 1024, ∑ j : Fin 32, (qOf x e (ix2 r j) - x (ix2 r j)) * (qOf x e (ix2 r j) - x (ix2 r j)) := by
  unfold lossOf qOf
  pointwise [k0_pay2, k0_pay3]

end Cert.Proof.Ker

end
-- ==== Proof.KernelReal.lean ====
/-
  The kernel's results over the reals: with real inputs, the quantised vectors are the soft means, the indices are the
  first nearest codes, and the loss is the whole squared error over the number of elements.
-/
module

public import proofs.«01_k».proof.Proof.KernelBlock

@[expose] public section

set_option maxRecDepth 16384

noncomputable section

namespace Cert.Proof.Ker

open Cert.KernelIdeal Cert.KernelIdeal.Gen Cert.Proof.Soft
open Idealize.ShloMosaic Idealize.ShloMosaic.TcCoe Idealize.SL.Sem

section Block

variable (x : Vec Ideal S1024x32 .f32) (e : Vec Ideal S32x8192 .f32)
variable (X : Fin 1024 → Fin 32 → ℝ) (E : Fin 32 → Fin 8192 → ℝ)
variable (hx : ∀ r j, x (ix2 r j) = ((X r j : ℝ) : EReal)) (he : ∀ j k, e (ix2 j k) = ((E j k : ℝ) : EReal))

include hx he

/-- The kernel's distances are the squared distances. -/
theorem dist_real (r : Fin 1024) (k : Fin 8192) :
    k0_pay9 x e (k0_pay4 e) (ix2 r k) = ((sqDist (X r) E k : ℝ) : EReal) := by
  rw [dist_apply, norms_apply]
  simp only [hx, he, bits_neg_two, ← EReal.coe_mul, coe_sum, ← EReal.coe_add]
  congr 1
  unfold sqDist
  rw [sub_eq_add_neg, ← Finset.sum_neg_distrib]
  congr 2
  exact Finset.sum_congr rfl fun j _ => by ring

/-- The kernel's unnormalised weighted sums of row `s` of the augmented codebook. -/
theorem prod_real (r : Fin 1024) (c : Fin 64) (v : Fin 8192 → ℝ) (hv : ∀ k, augmented e (ix2 c k) = ((v k : ℝ) : EReal)) :
    k0_pay10 x e (k0_pay4 e) (augmented e) (ix2 r c) = ((∑ k, wt (sqDist (X r) E) k * v k : ℝ) : EReal) := by
  rw [prod_apply, ← coe_sum]
  refine Finset.sum_congr rfl fun k _ => ?_
  rw [dist_real x e X E hx he, hv, ← EReal.coe_mul, Ideal.exp2_coe, exp2_scaled, ← EReal.coe_mul]
  rfl

/-- The quantised vectors are the soft means of the codes. -/
theorem q_real (r : Fin 1024) (j : Fin 32) :
    qOf x e (ix2 r j) = ((mean (sqDist (X r) E) (E j) : ℝ) : EReal) := by
  rw [q_apply x e r j ⟨j.val, by have := j.isLt; omega⟩ rfl,
    prod_real x e X E hx he r _ (E j) (fun k => (augmented_code e j k _ rfl).trans (he j k)),
    prod_real x e X E hx he r 32 (fun _ => 1) (fun k => augmented_one e k)]
  simp only [mul_one]
  exact coe_div _ (sum_wt_pos _).ne'

/-- The indices are the first nearest codes. -/
theorem ind_real (r : Fin 1024) (i : Fin 8192) (hi : IsNearest (sqDist (X r) E) i) :
    indOf x e (ix1 r) = BitVec.ofNat 32 i.val := by
  rw [ind_apply]
  simp only [dist_real x e X E hx he, bits_top, bits_count, cols_apply]
  have hm : Finset.fold min (⊤ : EReal) (fun z => ((sqDist (X r) E z : ℝ) : EReal)) Finset.univ = ((sqDist (X r) E i : ℝ) : EReal) :=
    fold_min_eq _ _ i (fun k => EReal.coe_le_coe_iff.mpr (hi.1 k)) le_top
  rw [hm, fold_min_index (sqDist (X r) E) i hi _ (fun k => by simp only [EReal.coe_eq_coe_iff])]
  exact fptosi_small i

/-- The running loss after a block: the block's squared error added. -/
theorem loss_real (o : Vec Ideal S1x1 .f32) (L : ℝ) (ho : o (ix2 0 0) = ((L : ℝ) : EReal)) :
    lossOf x e o (ix2 0 0) = ((L + ∑ r, ∑ j, (mean (sqDist (X r) E) (E j) - X r j) ^ 2 : ℝ) : EReal) := by
  rw [loss_apply]
  simp only [q_real x e X E hx he, hx, ho, ← EReal.coe_sub, ← EReal.coe_mul, coe_sum, ← EReal.coe_add, pow_two]

end Block

/-! ## The whole run -/

section Run

variable (m : (ℓ : Loc nD τ sig) → Buf (Elt Ideal) ℓ) (c : Dev nD)
variable (X : Fin 8 → Fin 1024 → Fin 32 → ℝ) (E : Fin 32 → Fin 8192 → ℝ)
variable (hx : ∀ b r j, (m ((c : Thread nD τ).loc main_arg0) : Vec Ideal S8x1024x32 .f32) (ix3 b r j) = ((X b r j : ℝ) : EReal))
variable (he : ∀ j k, codes m c (ix2 j k) = ((E j k : ℝ) : EReal))

include hx he

/-- The first result: the soft means. -/
theorem resQ_real (b : Fin 8) (r : Fin 1024) (j : Fin 32) :
    resQ m c (ix3 b r j) = ((mean (sqDist (X b r) E) (E j) : ℝ) : EReal) := by
  have hN : cfg0.N = 8 := N_0
  have hr := r.isLt
  have hb := b.isLt
  have hs : resQ m c (ix3 b r j) = qArr m c (ix2 ⟨b.val * 1024 + r.val, by omega⟩ j) := by
    unfold resQ
    generalize qArr m c = A
    pointwise
  rw [hs, qArr_at m c ⟨b.val, by omega⟩ (ix2 r j) _ rfl rfl]
  exact q_real _ _ (X b) E (fun r j => (xBlk_apply m c _ b rfl r j).trans (hx b r j)) he r j

/-- The third result: the first nearest codes. -/
theorem resI_real (b : Fin 8) (r : Fin 1024) (i : Fin 8192) (hi : IsNearest (sqDist (X b r) E) i) :
    resI m c (ix2 b r) = BitVec.ofNat 32 i.val := by
  have hN : cfg0.N = 8 := N_0
  have hr := r.isLt
  have hb := b.isLt
  have hs : resI m c (ix2 b r) = indArr m c (ix1 ⟨b.val * 1024 + r.val, by omega⟩) := by
    unfold resI
    generalize indArr m c = A
    pointwise
  rw [hs, indArr_at m c ⟨b.val, by omega⟩ (ix1 r) _ rfl]
  exact ind_real _ _ (X b) E (fun r j => (xBlk_apply m c _ b rfl r j).trans (hx b r j)) he r i hi

/-- The running loss after point `n`: the squared error of the first `n + 1` blocks. -/
theorem lossAt_real (n : ℕ) (h : n < cfg0.N) (h8 : n < 8) :
    lossAt m c n h (ix2 0 0) = ((∑ b ∈ Finset.univ.filter (fun b : Fin 8 => b.val ≤ n),
      ∑ r, ∑ j, (mean (sqDist (X b r) E) (E j) - X b r j) ^ 2 : ℝ) : EReal) := by
  induction n with
  | zero =>
    have h0 : k0_pay8 (F := Ideal) (ix2 0 0) = ((0 : ℝ) : EReal) := by
      pointwise [k0_pay8]
      exact EReal.coe_zero.symm
    rw [lossAt, loss_real (xBlk m c ⟨0, h⟩) (codes m c) (X 0) E
      (fun r j => (xBlk_apply m c ⟨0, h⟩ 0 rfl r j).trans (hx 0 r j)) he (k0_pay8 (F := Ideal)) 0 h0]
    have hf : (Finset.univ.filter fun b : Fin 8 => b.val ≤ 0) = {0} := by decide
    rw [hf, Finset.sum_singleton, zero_add]
  | succ n ih =>
    rw [lossAt, loss_real (xBlk m c ⟨n + 1, h⟩) (codes m c) (X ⟨n + 1, h8⟩) E
      (fun r j => (xBlk_apply m c ⟨n + 1, h⟩ ⟨n + 1, h8⟩ rfl r j).trans (hx _ r j)) he _ _ (ih _ (by omega))]
    have hf : (Finset.univ.filter fun b : Fin 8 => b.val ≤ n + 1) = insert ⟨n + 1, h8⟩ (Finset.univ.filter fun b : Fin 8 => b.val ≤ n) := by
      ext b
      simp only [Finset.mem_filter, Finset.mem_univ, true_and, Finset.mem_insert, Fin.ext_iff]
      omega
    rw [hf, Finset.sum_insert (by simp), add_comm]

/-- The second result: the mean squared error. -/
theorem resL_real (j : S_.Idx) :
    resL m c j = (((∑ b, ∑ r, ∑ j, (mean (sqDist (X b r) E) (E j) - X b r j) ^ 2) / 262144 : ℝ) : EReal) := by
  have hf : (Finset.univ.filter fun b : Fin 8 => b.val ≤ 7) = Finset.univ := by decide
  have hl := lossAt_real m c X E hx he 7 (by rw [show cfg0.N = 8 from N_0]; decide) (by decide)
  rw [hf] at hl
  have hs : resL m c j = Ideal.div (lossArr m c (ix2 0 0)) (Ideal.ofBits .f32 0x48800000#32) := by
    unfold resL
    generalize lossArr m c = A
    pointwise
  rw [hs, bits_size, show lossArr m c (ix2 0 0) = _ from hl]
  exact coe_div _ (by norm_num)

end Run

end Cert.Proof.Ker

end
-- ==== Proof.RefRun.lean ====
/-
  The run of the reference program (`Cert.ReferenceIdeal`): @main is one straight line of host operations, so every
  buffer ends at the operations' results folded over the launch contents. The three results are stated as the pure
  functions `dist`, `argm`, `weights`, `quant`, `loss` of the two arguments.
-/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## What the operations compute -/

/-- The squared distance of every input vector to every code: `(Σ x² − (2x)·e) + Σ e²`. -/
def dist (x : Vec F S8x1024x32 .f32) (e : Vec F S32x8192 .f32) : Vec F S8192x8192 .f32 :=
  let X : Vec F S8192x32 .f32 := shapeCast S8192x32 x shapeCasts_S8x1024x32_S8192x32
  addf (subf
      (broadcastInDim S8192x8192 ![0, 1] bcast_S8192x1_S8192x8192_0_1 (broadcastInDim S8192x1 ![0] bcast_S8192_S8192x1_0
        (Host.reduceAdd (mulf X X) (constant S_ .f32 0x00000000#32) reducesTo_S8192x32_S8192_d1 h_S_)))
      (Host.dotGeneral dot_S8192x32_S32x8192_S8192x8192_1_0_0_1_n_n none
        (mulf (broadcastInDim S8192x32 ![] bcast_S_S8192x32 (constant S_ .f32 0x40000000#32)) X) e))
    (broadcastInDim S8192x8192 ![0, 1] bcast_S1x8192_S8192x8192_0_1 (broadcastInDim S1x8192 ![1] bcast_S8192_S1x8192_1
      (Host.reduceAdd (mulf e e) (constant S_ .f32 0x00000000#32) reducesTo_S32x8192_S8192_d0 h_S_)))

/-- The second half of an arg-max over axes of an array: the payload of the pair it ends with. -/
def best {s t u : Shape} {axes : List (Fin s.rank)} (x : Vec F s .f32) (y : Vec F s .i32) (ix : Vec F u .f32) (iy : Vec F u .i32)
    (h : s.ReducesTo axes t) (hu : 0 < u.numel) : Vec F t .i32 :=
  fun j => (Host.argReduce (φ := .f32) (reducer_argmax_f32_i32 (F := F)) x y ix iy h hu j).2

/-- The index of each row's largest entry. -/
def argm (n : Vec F S8192x8192 .f32) : Vec F S8192 .i32 :=
  best n (iotaInDim S8192x8192 32 1) (constant (F := F) S_ .f32 0xFF800000#32) (constantI S_ 32 0#32) reducesTo_S8192x8192_S8192_d1 h_S_

/-- The softmax's argument: the negated distance over 4. -/
def logits (d : Vec F S8192x8192 .f32) : Vec F S8192x8192 .f32 :=
  Host.divf (Host.negf d) (broadcastInDim S8192x8192 ![] bcast_S_S8192x8192 (constant S_ .f32 0x40800000#32))

/-- The largest entry of each row. -/
def rowMax (l : Vec F S8192x8192 .f32) : Vec F S8192 .f32 :=
  maximumf (broadcastInDim S8192 ![] bcast_S_S8192 (constant S_ .f32 0xFF800000#32))
    (Host.reduce FloatOps.maximumf l (constant S_ .f32 0xFF800000#32) reducesTo_S8192x8192_S8192_d1 h_S_)

/-- Exponentials of the entries less a number `M` per row. -/
def shifted (l : Vec F S8192x8192 .f32) (M : Vec F S8192 .f32) : Vec F S8192x8192 .f32 :=
  Host.exp (subf l (broadcastInDim S8192x8192 ![0, 1] bcast_S8192x1_S8192x8192_0_1 (broadcastInDim S8192x1 ![0] bcast_S8192_S8192x1_0 M)))

/-- Exponentials of the entries less their row's largest. -/
def expo (l : Vec F S8192x8192 .f32) : Vec F S8192x8192 .f32 := shifted l (rowMax l)

/-- Each row over its sum. -/
def norm (p : Vec F S8192x8192 .f32) : Vec F S8192x8192 .f32 :=
  Host.divf p (broadcastInDim S8192x8192 ![0, 1] bcast_S8192x1_S8192x8192_0_1 (broadcastInDim S8192x1 ![0] bcast_S8192_S8192x1_0
    (Host.reduceAdd p (constant S_ .f32 0x00000000#32) reducesTo_S8192x8192_S8192_d1 h_S_)))

/-- The softmax weights of the distances. -/
def weights (d : Vec F S8192x8192 .f32) : Vec F S8192x8192 .f32 := norm (expo (logits d))

/-- The weighted sum of the codes, as the batch of vectors. -/
def quant (w : Vec F S8192x8192 .f32) (e : Vec F S32x8192 .f32) : Vec F S8x1024x32 .f32 :=
  shapeCast S8x1024x32 (Host.dotGeneral dot_S8192x8192_S8192x32_S8192x32_1_0_0_1_n_n none w
    (transpose S8192x32 [1, 0] e transposes_S32x8192_S8192x32_1_0) : Vec F S8192x32 .f32) shapeCasts_S8192x32_S8x1024x32

/-- The mean squared difference of two batches of vectors. -/
def loss (q x : Vec F S8x1024x32 .f32) : Vec F S_ .f32 :=
  Host.divf (Host.reduceAdd (mulf (subf q x) (subf q x)) (constant S_ .f32 0x00000000#32) reducesTo_S8x1024x32_S_d0_1_2 h_S_)
    (constant S_ .f32 0x48800000#32)

/-! ## The operations, in order -/

/-- The operations up to the distances (`%13`) and their negation (`%14`). -/
abbrev ops1 : List (HloOp τ sig (Elt F)) :=
  [ reshape main_arg0 main_v0 (rfl : (.f32 : EltTy) = .f32) shapeCasts_S8x1024x32_S8192x32,
    binary main_v0 main_v0 main_v1 (mulf : (⟨S8192x32, .f32⟩ : BufTy).Contents (Elt F) → (⟨S8192x32, .f32⟩ : BufTy).Contents (Elt F) → (⟨S8192x32, .f32⟩ : BufTy).Contents (Elt F)),
    nullary main_cst (constant S_ .f32 0x00000000#32),
    binary main_v1 main_cst main_v2 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v2 main_v3 (broadcastInDim S8192x1 ![0] bcast_S8192_S8192x1_0 : (⟨S8192, .f32⟩ : BufTy).Contents (Elt F) → (⟨S8192x1, .f32⟩ : BufTy).Contents (Elt F)),
    nullary main_cst_0 (constant S_ .f32 0x40000000#32),
    unary main_cst_0 main_v4 (broadcastInDim S8192x32 ![] bcast_S_S8192x32 : (⟨S_, .f32⟩ : BufTy).Contents (Elt F) → (⟨S8192x32, .f32⟩ : BufTy).Contents (Elt F)),
    binary main_v4 main_v0 main_v5 (mulf : (⟨S8192x32, .f32⟩ : BufTy).Contents (Elt F) → (⟨S8192x32, .f32⟩ : BufTy).Contents (Elt F) → (⟨S8192x32, .f32⟩ : BufTy).Contents (Elt F)),
    binary main_v5 main_arg1 main_v6 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F)),
    unary main_v3 main_v7 (broadcastInDim S8192x8192 ![0, 1] bcast_S8192x1_S8192x8192_0_1 : (⟨S8192x1, .f32⟩ : BufTy).Contents (Elt F) → (⟨S8192x8192, .f32⟩ : BufTy).Contents (Elt F)),
    binary main_v7 main_v6 main_v8 (subf : (⟨S8192x8192, .f32⟩ : BufTy).Contents (Elt F) → (⟨S8192x8192, .f32⟩ : BufTy).Contents (Elt F) → (⟨S8192x8192, .f32⟩ : BufTy).Contents (Elt F)),
    binary main_arg1 main_arg1 main_v9 (mulf : (⟨S32x8192, .f32⟩ : BufTy).Contents (Elt F) → (⟨S32x8192, .f32⟩ : BufTy).Contents (Elt F) → (⟨S32x8192, .f32⟩ : BufTy).Contents (Elt F)),
    nullary main_cst_1 (constant S_ .f32 0x00000000#32),
    binary main_v9 main_cst_1 main_v10 ((fun x v => Host.reduceAdd x v reducesTo_S32x8192_S8192_d0 h_S_) : (⟨S32x8192, .f32⟩ : BufTy).Contents (Elt F) → (⟨S_, .f32⟩ : BufTy).Contents (Elt F) → (⟨S8192, .f32⟩ : BufTy).Contents (Elt F)),
    unary main_v10 main_v11 (broadcastInDim S1x8192 ![1] bcast_S8192_S1x8192_1 : (⟨S8192, .f32⟩ : BufTy).Contents (Elt F) → (⟨S1x8192, .f32⟩ : BufTy).Contents (Elt F)),
    unary main_v11 main_v12 (broadcastInDim S8192x8192 ![0, 1] bcast_S1x8192_S8192x8192_0_1 : (⟨S1x8192, .f32⟩ : BufTy).Contents (Elt F) → (⟨S8192x8192, .f32⟩ : BufTy).Contents (Elt F)),
    binary main_v8 main_v12 main_v13 (addf : (⟨S8192x8192, .f32⟩ : BufTy).Contents (Elt F) → (⟨S8192x8192, .f32⟩ : BufTy).Contents (Elt F) → (⟨S8192x8192, .f32⟩ : BufTy).Contents (Elt F)),
    unary main_v13 main_v14 (Host.negf : (⟨S8192x8192, .f32⟩ : BufTy).Contents (Elt F) → (⟨S8192x8192, .f32⟩ : BufTy).Contents (Elt F)) ]

/-- The arg-max of `%14` along each row (`%15`). -/
abbrev ops2 : List (HloOp τ sig (Elt F)) :=
  [ nullary main_call0_v0 (iotaInDim S8192x8192 32 1),
    nullary main_call0_cst (constant S_ .f32 0xFF800000#32),
    nullary main_call0_c (constantI S_ 32 0#32),
    quaternary main_v14 main_call0_v0 main_call0_cst main_call0_c main_call0_v1_0 (fun x y u v j => (Host.argReduce reducer_argmax_f32_i32 x y u v reducesTo_S8192x8192_S8192_d1 h_S_ j).1),
    quaternary main_v14 main_call0_v0 main_call0_cst main_call0_c main_v15 (fun x y u v j => (Host.argReduce reducer_argmax_f32_i32 x y u v reducesTo_S8192x8192_S8192_d1 h_S_ j).2) ]

/-- The weights: a row's exponentials over their sum (`%16` to `%29`). -/
abbrev ops3 : List (HloOp τ sig (Elt F)) :=
  [ unary main_v13 main_v16 (Host.negf : (⟨S8192x8192, .f32⟩ : BufTy).Contents (Elt F) → (⟨S8192x8192, .f32⟩ : BufTy).Contents (Elt F)),
    nullary main_cst_2 (constant S_ .f32 0x40800000#32),
    unary main_cst_2 main_v17 (broadcastInDim S8192x8192 ![] bcast_S_S8192x8192 : (⟨S_, .f32⟩ : BufTy).Contents (Elt F) → (⟨S8192x8192, .f32⟩ : BufTy).Contents (Elt F)),
    binary main_v16 main_v17 main_v18 (Host.divf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0xFF800000#32),
    binary main_v18 main_cst_3 main_v19 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_4 (constant S_ .f32 0xFF800000#32),
    unary main_cst_4 main_v20 (broadcastInDim S8192 ![] bcast_S_S8192 : (⟨S_, .f32⟩ : BufTy).Contents (Elt F) → (⟨S8192, .f32⟩ : BufTy).Contents (Elt F)),
    binary main_v20 main_v19 main_v21 (maximumf : (⟨S8192, .f32⟩ : BufTy).Contents (Elt F) → (⟨S8192, .f32⟩ : BufTy).Contents (Elt F) → (⟨S8192, .f32⟩ : BufTy).Contents (Elt F)),
    unary main_v21 main_v22 (broadcastInDim S8192x1 ![0] bcast_S8192_S8192x1_0 : (⟨S8192, .f32⟩ : BufTy).Contents (Elt F) → (⟨S8192x1, .f32⟩ : BufTy).Contents (Elt F)),
    unary main_v22 main_v23 (broadcastInDim S8192x8192 ![0, 1] bcast_S8192x1_S8192x8192_0_1 : (⟨S8192x1, .f32⟩ : BufTy).Contents (Elt F) → (⟨S8192x8192, .f32⟩ : BufTy).Contents (Elt F)),
    binary main_v18 main_v23 main_v24 (subf : (⟨S8192x8192, .f32⟩ : BufTy).Contents (Elt F) → (⟨S8192x8192, .f32⟩ : BufTy).Contents (Elt F) → (⟨S8192x8192, .f32⟩ : BufTy).Contents (Elt F)),
    unary main_v24 main_v25 (Host.exp : (⟨S8192x8192, .f32⟩ : BufTy).Contents (Elt F) → (⟨S8192x8192, .f32⟩ : BufTy).Contents (Elt F)),
    nullary main_cst_5 (constant S_ .f32 0x00000000#32),
    binary main_v25 main_cst_5 main_v26 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v26 main_v27 (broadcastInDim S8192x1 ![0] bcast_S8192_S8192x1_0 : (⟨S8192, .f32⟩ : BufTy).Contents (Elt F) → (⟨S8192x1, .f32⟩ : BufTy).Contents (Elt F)),
    unary main_v27 main_v28 (broadcastInDim S8192x8192 ![0, 1] bcast_S8192x1_S8192x8192_0_1 : (⟨S8192x1, .f32⟩ : BufTy).Contents (Elt F) → (⟨S8192x8192, .f32⟩ : BufTy).Contents (Elt F)),
    binary main_v25 main_v28 main_v29 (Host.divf : (⟨S8192x8192, .f32⟩ : BufTy).Contents (Elt F) → (⟨S8192x8192, .f32⟩ : BufTy).Contents (Elt F) → (⟨S8192x8192, .f32⟩ : BufTy).Contents (Elt F)) ]

/-- The quantized vectors (`%32`), the loss (`%36`) and the reshaped indices (`%37`). -/
abbrev ops4 : List (HloOp τ sig (Elt F)) :=
  [ unary main_arg1 main_v30 ((transpose S8192x32 [1, 0] · transposes_S32x8192_S8192x32_1_0) : (⟨S32x8192, .f32⟩ : BufTy).Contents (Elt F) → (⟨S8192x32, .f32⟩ : BufTy).Contents (Elt F)),
    binary main_v29 main_v30 main_v31 ((fun l r => Host.dotGeneral dot_S8192x8192_S8192x32_S8192x32_1_0_0_1_n_n none l r) : (⟨S8192x8192, .f32⟩ : BufTy).Contents (Elt F) → (⟨S8192x32, .f32⟩ : BufTy).Contents (Elt F) → (⟨S8192x32, .f32⟩ : BufTy).Contents (Elt F)),
    reshape main_v31 main_v32 (rfl : (.f32 : EltTy) = .f32) shapeCasts_S8192x32_S8x1024x32,
    binary main_v32 main_arg0 main_v33 (subf : (⟨S8x1024x32, .f32⟩ : BufTy).Contents (Elt F) → (⟨S8x1024x32, .f32⟩ : BufTy).Contents (Elt F) → (⟨S8x1024x32, .f32⟩ : BufTy).Contents (Elt F)),
    binary main_v33 main_v33 main_v34 (mulf : (⟨S8x1024x32, .f32⟩ : BufTy).Contents (Elt F) → (⟨S8x1024x32, .f32⟩ : BufTy).Contents (Elt F) → (⟨S8x1024x32, .f32⟩ : BufTy).Contents (Elt F)),
    nullary main_cst_6 (constant S_ .f32 0x00000000#32),
    binary main_v34 main_cst_6 main_v35 ((fun x v => Host.reduceAdd x v reducesTo_S8x1024x32_S_d0_1_2 h_S_) : (⟨S8x1024x32, .f32⟩ : BufTy).Contents (Elt F) → (⟨S_, .f32⟩ : BufTy).Contents (Elt F) → (⟨S_, .f32⟩ : BufTy).Contents (Elt F)),
    nullary main_cst_7 (constant S_ .f32 0x48800000#32),
    binary main_v35 main_cst_7 main_v36 (Host.divf : (⟨S_, .f32⟩ : BufTy).Contents (Elt F) → (⟨S_, .f32⟩ : BufTy).Contents (Elt F) → (⟨S_, .f32⟩ : BufTy).Contents (Elt F)),
    reshape main_v15 main_v37 (rfl : (.i32 : EltTy) = .i32) shapeCasts_S8192_S8x1024 ]

/-- @main's operations. -/
abbrev ops : List (HloOp τ sig (Elt F)) := ops1 ++ (ops2 ++ (ops3 ++ ops4))

/-- @main is that straight line. -/
theorem main_eq (c : Dev nD) : main (F := F) c = seq ops := rfl

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨reshape_bufs_sub .., binary_bufs_sub .., nullary_bufs_sub .., binary_bufs_sub .., unary_bufs_sub ..,
    nullary_bufs_sub .., unary_bufs_sub .., binary_bufs_sub .., binary_bufs_sub .., unary_bufs_sub ..,
    binary_bufs_sub .., binary_bufs_sub .., nullary_bufs_sub .., binary_bufs_sub .., unary_bufs_sub ..,
    unary_bufs_sub .., binary_bufs_sub .., unary_bufs_sub .., nullary_bufs_sub .., nullary_bufs_sub ..,
    nullary_bufs_sub .., quaternary_bufs_sub .., quaternary_bufs_sub .., unary_bufs_sub .., nullary_bufs_sub ..,
    unary_bufs_sub .., binary_bufs_sub .., nullary_bufs_sub .., binary_bufs_sub .., nullary_bufs_sub ..,
    unary_bufs_sub .., binary_bufs_sub .., unary_bufs_sub .., unary_bufs_sub .., binary_bufs_sub ..,
    unary_bufs_sub .., nullary_bufs_sub .., binary_bufs_sub .., unary_bufs_sub .., unary_bufs_sub ..,
    binary_bufs_sub .., unary_bufs_sub .., binary_bufs_sub .., reshape_bufs_sub .., binary_bufs_sub ..,
    binary_bufs_sub .., nullary_bufs_sub .., binary_bufs_sub .., nullary_bufs_sub .., binary_bufs_sub ..,
    reshape_bufs_sub ..⟩

/-! ## The fold of each stretch, at the buffers read later -/

theorem s1_v13 (V : Valuation τ sig (Elt F)) :
    after ops1 V (main_v13 : DevRef τ sig) = dist (V (main_arg0 : DevRef τ sig)) (V (main_arg1 : DevRef τ sig)) := by
  after_results
  rfl
theorem s1_v14 (V : Valuation τ sig (Elt F)) :
    after ops1 V (main_v14 : DevRef τ sig) = Host.negf (dist (V (main_arg0 : DevRef τ sig)) (V (main_arg1 : DevRef τ sig))) := by
  after_results
  rfl
theorem s1_arg0 (V : Valuation τ sig (Elt F)) :
    after ops1 V (main_arg0 : DevRef τ sig) = V (main_arg0 : DevRef τ sig) := by
  after_results
theorem s1_arg1 (V : Valuation τ sig (Elt F)) :
    after ops1 V (main_arg1 : DevRef τ sig) = V (main_arg1 : DevRef τ sig) := by
  after_results
theorem s2_v15 (V : Valuation τ sig (Elt F)) :
    after ops2 V (main_v15 : DevRef τ sig) = argm (V (main_v14 : DevRef τ sig)) := by
  after_results
  rfl
theorem s2_v13 (V : Valuation τ sig (Elt F)) :
    after ops2 V (main_v13 : DevRef τ sig) = V (main_v13 : DevRef τ sig) := by
  after_results
theorem s2_arg0 (V : Valuation τ sig (Elt F)) :
    after ops2 V (main_arg0 : DevRef τ sig) = V (main_arg0 : DevRef τ sig) := by
  after_results
theorem s2_arg1 (V : Valuation τ sig (Elt F)) :
    after ops2 V (main_arg1 : DevRef τ sig) = V (main_arg1 : DevRef τ sig) := by
  after_results
theorem s3_v29 (V : Valuation τ sig (Elt F)) :
    after ops3 V (main_v29 : DevRef τ sig) = weights (V (main_v13 : DevRef τ sig)) := by
  after_results
  rfl
theorem s3_v15 (V : Valuation τ sig (Elt F)) :
    after ops3 V (main_v15 : DevRef τ sig) = V (main_v15 : DevRef τ sig) := by
  after_results
theorem s3_arg0 (V : Valuation τ sig (Elt F)) :
    after ops3 V (main_arg0 : DevRef τ sig) = V (main_arg0 : DevRef τ sig) := by
  after_results
theorem s3_arg1 (V : Valuation τ sig (Elt F)) :
    after ops3 V (main_arg1 : DevRef τ sig) = V (main_arg1 : DevRef τ sig) := by
  after_results
theorem s4_v32 (V : Valuation τ sig (Elt F)) :
    after ops4 V (main_v32 : DevRef τ sig) = quant (V (main_v29 : DevRef τ sig)) (V (main_arg1 : DevRef τ sig)) := by
  after_results
  rfl
theorem s4_v36 (V : Valuation τ sig (Elt F)) :
    after ops4 V (main_v36 : DevRef τ sig)
      = loss (quant (V (main_v29 : DevRef τ sig)) (V (main_arg1 : DevRef τ sig))) (V (main_arg0 : DevRef τ sig)) := by
  after_results
  rfl
theorem s4_v37 (V : Valuation τ sig (Elt F)) :
    after ops4 V (main_v37 : DevRef τ sig) = (shapeCast S8x1024 (V (main_v15 : DevRef τ sig) : Vec F S8192 .i32) shapeCasts_S8192_S8x1024 : Vec F S8x1024 .i32) := by
  after_results
  rfl
theorem s4_arg0 (V : Valuation τ sig (Elt F)) :
    after ops4 V (main_arg0 : DevRef τ sig) = V (main_arg0 : DevRef τ sig) := by
  after_results
theorem s4_arg1 (V : Valuation τ sig (Elt F)) :
    after ops4 V (main_arg1 : DevRef τ sig) = V (main_arg1 : DevRef τ sig) := by
  after_results

/-- The reference's first result: the quantized vectors. -/
def outQ (x : Vec F S8x1024x32 .f32) (e : Vec F S32x8192 .f32) : Vec F S8x1024x32 .f32 := quant (weights (dist x e)) e
/-- Its second: the loss. -/
def outL (x : Vec F S8x1024x32 .f32) (e : Vec F S32x8192 .f32) : Vec F S_ .f32 := loss (outQ x e) x
/-- Its third: the indices of the nearest codes. -/
def outI (x : Vec F S8x1024x32 .f32) (e : Vec F S32x8192 .f32) : Vec F S8x1024 .i32 :=
  shapeCast S8x1024 (argm (Host.negf (dist x e))) shapeCasts_S8192_S8x1024

theorem v32_eq (V : Valuation τ sig (Elt F)) :
    after ops V (main_v32 : DevRef τ sig) = outQ (V (main_arg0 : DevRef τ sig)) (V (main_arg1 : DevRef τ sig)) := by
  rw [after_append, after_append, after_append, s4_v32, s3_v29, s3_arg1, s2_v13, s2_arg1, s1_v13, s1_arg1]; rfl
theorem v36_eq (V : Valuation τ sig (Elt F)) :
    after ops V (main_v36 : DevRef τ sig) = outL (V (main_arg0 : DevRef τ sig)) (V (main_arg1 : DevRef τ sig)) := by
  rw [after_append, after_append, after_append, s4_v36, s3_v29, s3_arg0, s3_arg1, s2_v13, s2_arg0, s2_arg1, s1_v13, s1_arg0, s1_arg1]; rfl
theorem v37_eq (V : Valuation τ sig (Elt F)) :
    after ops V (main_v37 : DevRef τ sig) = outI (V (main_arg0 : DevRef τ sig)) (V (main_arg1 : DevRef τ sig)) := by
  rw [after_append, after_append, after_append, s4_v37, s3_v15, s2_v15, s1_v14]; rfl
theorem arg0_eq (V : Valuation τ sig (Elt F)) :
    after ops V (main_arg0 : DevRef τ sig) = V (main_arg0 : DevRef τ sig) := by
  rw [after_append, after_append, after_append, s4_arg0, s3_arg0, s2_arg0, s1_arg0]
theorem arg1_eq (V : Valuation τ sig (Elt F)) :
    after ops V (main_arg1 : DevRef τ sig) = V (main_arg1 : DevRef τ sig) := by
  rw [after_append, after_append, after_append, s4_arg1, s3_arg1, s2_arg1, s1_arg1]

/-- From any memory with zero counters: every weakly fair execution of @main terminates, and every final state has the
    three result buffers at `outQ`, `outL` and `outI` of the arguments' launch contents, and the arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v32) = outQ (m ((c.tc : Thread nD τ).loc main_arg0)) (m ((c.tc : Thread nD τ).loc main_arg1))
        ∧ r.2.mem ((c.tc : Thread nD τ).loc main_v36) = outL (m ((c.tc : Thread nD τ).loc main_arg0)) (m ((c.tc : Thread nD τ).loc main_arg1))
        ∧ r.2.mem ((c.tc : Thread nD τ).loc main_v37) = outI (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v32).trans (v32_eq _), (h c main_v36).trans (v36_eq _), (h c main_v37).trans (v37_eq _),
      (h c main_arg0).trans (arg0_eq _), (h c main_arg1).trans (arg1_eq _)⟩)
    (run_seq scopedRefs_eq scopedSems_eq defs main (fun _ => ops) main_eq (fun _ => ops_sub) m ρ)

end Cert.Proof.Ref

end
-- ==== Proof.RefReduce.lean ====
/-
  The reference's two row reductions at real entries, for any shapes: a row's largest entry is a real number, and the
  arg-max's second result is the number of the first largest entry.
-/
module

public import proofs.«01_k».proof.Proof.RefRun
public import proofs.«01_k».proof.Proof.Math

@[expose] public section

set_option maxRecDepth 16384

noncomputable section

namespace Cert.Proof.Ref

open Cert.ReferenceIdeal Cert.ReferenceIdeal.Gen Cert.Proof.Soft
open Idealize.ShloMosaic Idealize.ShloMosaic.TcCoe Idealize.SL.Sem

/-- A maximum reduction of real entries from `⊥`, over a fibre holding an index, is a real number. -/
theorem reduceMax_real {s t u : Shape} {axes : List (Fin s.rank)} (x : s.Idx → Ideal .f32) (f : s.Idx → ℝ)
    (hx : ∀ i, x i = ((f i : ℝ) : EReal)) (init : u.Idx → Ideal .f32) (h : s.ReducesTo axes t) (hu : 0 < u.numel) (j : t.Idx)
    (hi : init (Shape.Idx.first hu) = (⊥ : EReal)) (i₀ : s.Idx) (h₀ : h.drop i₀ = j) :
    ∃ M : ℝ, Host.reduce (FloatOps.maximumf (F := Ideal)) x init h hu j = (M : EReal) := by
  have hmem : i₀ ∈ Finset.univ.filter (fun i => h.drop i = j) := by
    rw [Finset.mem_filter]; exact ⟨Finset.mem_univ _, h₀⟩
  obtain ⟨a, ha, hmax⟩ := Finset.exists_max_image (Finset.univ.filter fun i => h.drop i = j) f ⟨i₀, hmem⟩
  refine ⟨f a, ?_⟩
  have e : Host.reduce (FloatOps.maximumf (F := Ideal)) x init h hu j = Host.reduce (fun p q : EReal => max p q) x init h hu j := rfl
  rw [e, Host.reduce_eq_fold, hi]
  apply le_antisymm
  · refine (Finset.fold_max_le _).mpr ⟨bot_le, fun k hk => ?_⟩
    rw [hx]
    exact EReal.coe_le_coe_iff.mpr (hmax k hk)
  · exact (Finset.le_fold_max _).mpr (Or.inr ⟨a, ha, (hx a).ge⟩)

/-- Signed comparison of two small whole numbers as words. -/
theorem slt_small (i k : Fin 8192) : IntOp.cmpi .slt (BitVec.ofNat 32 i.val) (BitVec.ofNat 32 k.val) = if i < k then 1#1 else 0#1 := by
  have hi := i.isLt
  have hk := k.isLt
  have e : ∀ n : ℕ, n < 8192 → (BitVec.ofNat 32 n).toInt = (n : Int) := fun n hn => by
    rw [BitVec.toInt_eq_toNat_of_lt] <;> simp only [BitVec.toNat_ofNat] <;> omega
  show BitVec.ofBool ((BitVec.ofNat 32 i.val).slt (BitVec.ofNat 32 k.val)) = _
  rw [BitVec.slt, e _ hi, e _ hk]
  by_cases h : i < k
  · rw [if_pos h, decide_eq_true (by exact_mod_cast h)]; rfl
  · rw [if_neg h, decide_eq_false (by exact_mod_cast h)]; rfl

/-- A value with its index, as the arg-max carries them. -/
def pair (f : Fin 8192 → ℝ) (k : Fin 8192) : Ideal .f32 × BitVec 32 := (((f k : ℝ) : EReal), BitVec.ofNat 32 k.val)

/-- The arg-max's step on two pairs keeps the greater value, on equal values the smaller index. -/
theorem step_pair (f : Fin 8192 → ℝ) (i k : Fin 8192) :
    reducer_argmax_f32_i32 (F := Ideal) (pair f i) (pair f k) = if f k < f i ∨ (f i = f k ∧ i < k) then pair f i else pair f k := by
  unfold reducer_argmax_f32_i32 pair
  simp only [Ideal.cmpf_def, Ideal.cmp, slt_small]
  by_cases hik : i < k
  · rcases lt_trichotomy (f i) (f k) with h | h | h
    · simp [h.not_gt, h.ne, hik, Scalar.select, IntOp.ori, IntOp.andi]
    · simp [h, hik, Scalar.select, IntOp.ori, IntOp.andi]
    · simp [h, h.ne', hik, Scalar.select, IntOp.ori, IntOp.andi]
  · rcases lt_trichotomy (f i) (f k) with h | h | h
    · simp [h.not_gt, h.ne, hik, Scalar.select, IntOp.ori, IntOp.andi]
    · simp [h, hik, Scalar.select, IntOp.ori, IntOp.andi]
    · simp [h, h.ne', hik, Scalar.select, IntOp.ori, IntOp.andi]

/-- The arg-max's step from the initial pair takes the new pair. -/
theorem step_init (f : Fin 8192 → ℝ) (z : BitVec 32) (k : Fin 8192) :
    reducer_argmax_f32_i32 (F := Ideal) ((⊥ : EReal), z) (pair f k) = pair f k := by
  unfold reducer_argmax_f32_i32 pair
  simp only [Ideal.cmpf_def, Ideal.cmp]
  have h1 : ¬ ((f k : ℝ) : EReal) < ⊥ := not_lt_bot
  have h2 : ¬ (⊥ : EReal) = ((f k : ℝ) : EReal) := (EReal.bot_lt_coe _).ne
  simp [h1, h2, Scalar.select, IntOp.ori, IntOp.andi]

/-- Folding the step over pairs from the best pair stays there, -/
theorem fold_best (f : Fin 8192 → ℝ) (i : Fin 8192) (hi : IsNearest (fun k => -(f k)) i) (L : List (Ideal .f32 × BitVec 32))
    (hL : ∀ p ∈ L, ∃ k, p = pair f k) : L.foldl (reducer_argmax_f32_i32 (F := Ideal)) (pair f i) = pair f i := by
  induction L with
  | nil => rfl
  | cons p L ih =>
    obtain ⟨k, rfl⟩ := hL p List.mem_cons_self
    rw [List.foldl_cons, step_pair]
    have hs : (if f k < f i ∨ (f i = f k ∧ i < k) then pair f i else pair f k) = pair f i := by
      by_cases hk : f k < f i ∨ (f i = f k ∧ i < k)
      · rw [if_pos hk]
      · rw [if_neg hk]
        have h1 : f k ≤ f i := neg_le_neg_iff.mp (hi.1 k)
        have h2 : f i = f k := le_antisymm (not_lt.mp fun h => hk (Or.inl h)) h1
        have h3 : i ≤ k := hi.2 k (by show -(f k) ≤ -(f i); rw [h2])
        have h4 : i = k := le_antisymm h3 (not_lt.mp fun h => hk (Or.inr ⟨h2, h⟩))
        rw [h4]
    rw [hs]
    exact ih fun q hq => hL q (List.mem_cons_of_mem _ hq)

/-- and from any pair, or the initial one, it ends there once the best pair is in the list. -/
theorem fold_reaches (f : Fin 8192 → ℝ) (i : Fin 8192) (hi : IsNearest (fun k => -(f k)) i) (L : List (Ideal .f32 × BitVec 32))
    (hL : ∀ p ∈ L, ∃ k, p = pair f k) (hm : pair f i ∈ L) (a : Ideal .f32 × BitVec 32)
    (ha : (∃ z, a = ((⊥ : EReal), z)) ∨ ∃ k, a = pair f k) :
    L.foldl (reducer_argmax_f32_i32 (F := Ideal)) a = pair f i := by
  induction L generalizing a with
  | nil => exact absurd hm List.not_mem_nil
  | cons p L ih =>
    obtain ⟨k, hk⟩ := hL p List.mem_cons_self
    have hL' : ∀ q ∈ L, ∃ k, q = pair f k := fun q hq => hL q (List.mem_cons_of_mem _ hq)
    rw [List.foldl_cons]
    have hs : ∃ k', reducer_argmax_f32_i32 (F := Ideal) a p = pair f k' ∧ (p = pair f i → pair f k' = pair f i) := by
      rcases ha with ⟨z, rfl⟩ | ⟨l, rfl⟩
      · exact ⟨k, by rw [hk, step_init], fun h => hk ▸ h⟩
      · rw [hk, step_pair]
        by_cases hc : f k < f l ∨ (f l = f k ∧ l < k)
        · refine ⟨l, if_pos hc, fun h => ?_⟩
          have hv : f k = f i := EReal.coe_eq_coe_iff.mp (congrArg Prod.fst h)
          have hw : BitVec.ofNat 32 k.val = BitVec.ofNat 32 i.val := congrArg Prod.snd h
          have hki : k = i := by
            have := congrArg BitVec.toNat hw
            simp only [BitVec.toNat_ofNat] at this
            have h1 := k.isLt
            have h2 := i.isLt
            exact Fin.ext (by omega)
          subst hki
          rcases hc with hc | ⟨hc, hlt⟩
          · exact absurd (neg_le_neg_iff.mp (hi.1 l)) (not_le.mpr hc)
          · exact absurd (hi.2 l (by show -(f l) ≤ -(f k); rw [hc])) (not_le.mpr hlt)
        · exact ⟨k, if_neg hc, id⟩
    obtain ⟨k', h', hp⟩ := hs
    rw [h']
    rcases List.mem_cons.mp hm with hm | hm
    · rw [hp hm.symm]
      exact fold_best f i hi L hL'
    · exact ih hL' hm _ (Or.inr ⟨k', rfl⟩)

/-- The arg-max's second result, over a fibre of real entries that holds the first largest one. -/
theorem argReduce_real {s t u : Shape} {axes : List (Fin s.rank)} (x : FVec Ideal s .f32) (y : s.Idx → BitVec 32)
    (ix : u.Idx → Ideal .f32) (iy : u.Idx → BitVec 32) (h : s.ReducesTo axes t) (hu : 0 < u.numel) (j : t.Idx)
    (f : Fin 8192 → ℝ) (i : Fin 8192) (hi : IsNearest (fun k => -(f k)) i)
    (hx : ∀ n, h.drop n = j → ∃ k, (x n, y n) = pair f k) (n₀ : s.Idx) (h₀ : h.drop n₀ = j) (hb : (x n₀, y n₀) = pair f i)
    (hix : ix (Shape.Idx.first hu) = (⊥ : EReal)) :
    (Host.argReduce (reducer_argmax_f32_i32 (F := Ideal)) x y ix iy h hu j).2 = BitVec.ofNat 32 i.val := by
  rw [Ideal.argReduce_eq_reduce2, Host.reduce2_eq_foldl_fiber, fold_reaches f i hi]
  · rfl
  · intro p hp
    obtain ⟨n, hn, rfl⟩ := List.mem_map.mp hp
    exact hx _ (of_decide_eq_true (List.mem_filter.mp hn).2)
  · rw [← hb]
    refine List.mem_map.mpr ⟨s.rowMajor n₀, List.mem_filter.mpr ⟨List.mem_finRange _, ?_⟩, ?_⟩
    · rw [Equiv.symm_apply_apply]; exact decide_eq_true h₀
    · rw [Equiv.symm_apply_apply]
  · exact Or.inl ⟨_, by rw [hix]⟩

end Cert.Proof.Ref

end
-- ==== Proof.RefReal.lean ====
/-
  The reference's results over the reals: with real inputs, its quantised vectors are the soft means, its indices are the
  first nearest codes, and its loss is the mean squared error.
-/
module

public import proofs.«01_k».proof.Proof.RefReduce

@[expose] public section

set_option maxRecDepth 16384

noncomputable section

namespace Cert.Proof.Ref

open Cert.ReferenceIdeal Cert.ReferenceIdeal.Gen Cert.Proof.Soft
open Idealize.ShloMosaic Idealize.ShloMosaic.TcCoe Idealize.SL.Sem

/-! ## The operations at an index -/

/-- The batch and row of vector `n`. -/
abbrev bat (n : Fin 8192) : Fin 8 := ⟨n.val / 1024, by have := n.isLt; omega⟩
abbrev row (n : Fin 8192) : Fin 1024 := ⟨n.val % 1024, Nat.mod_lt _ (by decide)⟩

/-- The distance of vector `n` to code `k`. -/
theorem dist_apply (x : Vec Ideal S8x1024x32 .f32) (e : Vec Ideal S32x8192 .f32) (n k : Fin 8192) :
    dist x e (ix2 n k) = ∑ j, x (ix3 (bat n) (row n) j) * x (ix3 (bat n) (row n) j)
      - ∑ j, Ideal.ofBits .f32 0x40000000#32 * x (ix3 (bat n) (row n) j) * e (ix2 j k) + ∑ j, e (ix2 j k) * e (ix2 j k) := by
  unfold dist
  pointwise

/-- The softmax's argument. -/
theorem logits_apply (d : Vec Ideal S8192x8192 .f32) (n k : Fin 8192) :
    logits d (ix2 n k) = Ideal.div (-d (ix2 n k)) (Ideal.ofBits .f32 0x40800000#32) := by
  unfold logits
  pointwise

/-- An exponential, shifted by its row's number. -/
theorem shifted_apply (l : Vec Ideal S8192x8192 .f32) (M : Vec Ideal S8192 .f32) (n k : Fin 8192) :
    shifted l M (ix2 n k) = Ideal.exp (l (ix2 n k) - M (ix1 n)) := by
  unfold shifted
  pointwise

/-- An entry over its row's sum. -/
theorem norm_apply (p : Vec Ideal S8192x8192 .f32) (n k : Fin 8192) :
    norm p (ix2 n k) = Ideal.div (p (ix2 n k)) (∑ y, p (ix2 n y)) := by
  unfold norm
  pointwise

/-- The weighted sum of the codes. -/
theorem quant_apply (w : Vec Ideal S8192x8192 .f32) (e : Vec Ideal S32x8192 .f32) (b : Fin 8) (r : Fin 1024) (j : Fin 32) (n : Fin 8192)
    (hn : n.val = b.val * 1024 + r.val) : quant w e (ix3 b r j) = ∑ k, w (ix2 n k) * e (ix2 j k) := by
  have h : n = ⟨b.val * 1024 + r.val, hn ▸ n.isLt⟩ := Fin.ext hn
  rw [h]
  unfold quant
  pointwise

/-- The mean squared difference. -/
theorem loss_apply (q x : Vec Ideal S8x1024x32 .f32) (i : S_.Idx) :
    loss q x i = Ideal.div (∑ b : Fin 8, ∑ r : Fin 1024, ∑ j : Fin 32, (q (ix3 b r j) - x (ix3 b r j)) * (q (ix3 b r j) - x (ix3 b r j)))
      (Ideal.ofBits .f32 0x48800000#32) := by
  unfold loss
  pointwise

/-- The reshape of the indices. -/
theorem reshape_apply (v : Vec Ideal S8192 .i32) (b : Fin 8) (r : Fin 1024) (n : Fin 8192) (hn : n.val = b.val * 1024 + r.val) :
    (shapeCast S8x1024 v shapeCasts_S8192_S8x1024 : Vec Ideal S8x1024 .i32) (ix2 b r) = v (ix1 n) := by
  have h : n = ⟨b.val * 1024 + r.val, hn ▸ n.isLt⟩ := Fin.ext hn
  rw [h]
  pointwise

/-- The larger of `⊥` and a vector's entry, the form in which the row maximum is taken. -/
theorem floor_apply (v : Vec Ideal S8192 .f32) (n : Fin 8192) :
    maximumf (broadcastInDim S8192 ![] bcast_S_S8192 (constant S_ .f32 0xFF800000#32)) v (ix1 n) = max (Ideal.ofBits .f32 0xFF800000#32) (v (ix1 n)) := by
  pointwise

/-- Dropping the second coordinate. -/
theorem drop_row (n k : Fin 8192) : reducesTo_S8192x8192_S8192_d1.drop (ix2 n k) = ix1 n := by
  funext a
  match a with
  | ⟨0, _⟩ => rfl

/-- A row's largest real entry is a real number. -/
theorem rowMax_real (l : Vec Ideal S8192x8192 .f32) (f : Fin 8192 → Fin 8192 → ℝ)
    (hl : ∀ n k, l (ix2 n k) = ((f n k : ℝ) : EReal)) (n : Fin 8192) : ∃ M : ℝ, rowMax l (ix1 n) = (M : EReal) := by
  have hb : constant (F := Ideal) S_ .f32 0xFF800000#32 (Shape.Idx.first h_S_) = (⊥ : EReal) := bits_bot
  obtain ⟨M, hM⟩ := reduceMax_real l (fun i => f (i 0) (i 1)) (fun i => (congrArg l (eq_ix2 i)).trans (hl (i 0) (i 1))) _
    reducesTo_S8192x8192_S8192_d1 h_S_ (ix1 n) hb (ix2 n 0) (drop_row n 0)
  refine ⟨M, ?_⟩
  unfold rowMax
  rw [floor_apply, hM, bits_bot]
  exact max_eq_right bot_le

/-- The negation of an array, at an index. -/
theorem negf_apply (d : Vec Ideal S8192x8192 .f32) (i : S8192x8192.Idx) : Host.negf (F := Ideal) (φ := .f32) d i = -(d i) := rfl

/-- The column numbers, at an index. -/
theorem iota_apply (n k : Fin 8192) : iotaInDim S8192x8192 32 1 (ix2 n k) = BitVec.ofNat 32 k.val := rfl

/-- The arg-max's payload, for an array that holds the pairs `pair f k` at the positions reduced into `j`. -/
theorem best_real {s t u : Shape} {axes : List (Fin s.rank)} (x : Vec Ideal s .f32) (y : Vec Ideal s .i32)
    (ix : Vec Ideal u .f32) (iy : Vec Ideal u .i32) (h : s.ReducesTo axes t) (hu : 0 < u.numel) (j : t.Idx)
    (f : Fin 8192 → ℝ) (i : Fin 8192) (hi : IsNearest (fun k => -(f k)) i)
    (hx : ∀ n, h.drop n = j → ∃ k, (x n, y n) = pair f k) (n₀ : s.Idx) (h₀ : h.drop n₀ = j) (hb : (x n₀, y n₀) = pair f i)
    (hix : ix (Shape.Idx.first hu) = (⊥ : EReal)) : best x y ix iy h hu j = BitVec.ofNat 32 i.val :=
  argReduce_real x y ix iy h hu j f i hi hx n₀ h₀ hb hix

/-- The arg-max read as its reduction. -/
theorem argm_apply (N : Vec Ideal S8192x8192 .f32) (j : S8192.Idx) :
    argm N j = best (F := Ideal) N (iotaInDim S8192x8192 32 1) (constant (F := Ideal) S_ .f32 0xFF800000#32)
      (constantI S_ 32 0#32) reducesTo_S8192x8192_S8192_d1 h_S_ j := by
  with_reducible unfold argm
  with_reducible rfl

/-- Every position of row `n` is a column of it. -/
theorem row_positions (n : Fin 8192) (m : S8192x8192.Idx) (h : reducesTo_S8192x8192_S8192_d1.drop m = ix1 n) :
    ∃ k : Fin 8192, m = ix2 n k := by
  obtain ⟨a, k, rfl⟩ : ∃ a k : Fin 8192, m = ix2 a k := ⟨m 0, m 1, eq_ix2 m⟩
  rw [drop_row] at h
  have ha : a = n := congrFun h 0
  exact ⟨k, by rw [ha]⟩

/-- The arg-max's initial value is `⊥`. -/
theorem init_bot : constant (F := Ideal) S_ .f32 0xFF800000#32 (Shape.Idx.first h_S_) = (⊥ : EReal) := bits_bot

/-- A real entry of row `n` and its column number, as the arg-max pairs them. -/
theorem row_pair (N : Vec Ideal S8192x8192 .f32) (n : Fin 8192) (f : Fin 8192 → ℝ) (hN : ∀ k, N (ix2 n k) = ((f k : ℝ) : EReal))
    (k : Fin 8192) : (N (ix2 n k), iotaInDim S8192x8192 32 1 (ix2 n k)) = pair f k := by
  rw [hN, iota_apply, pair]

/-- The arg-max of a row of real entries is the number of the first largest one. -/
theorem argm_real (N : Vec Ideal S8192x8192 .f32) (n : Fin 8192) (f : Fin 8192 → ℝ) (hN : ∀ k, N (ix2 n k) = ((f k : ℝ) : EReal))
    (i : Fin 8192) (hi : IsNearest (fun k => -(f k)) i) : argm N (ix1 n) = BitVec.ofNat 32 i.val := by
  rw [argm_apply]
  refine best_real N (iotaInDim S8192x8192 32 1) (constant (F := Ideal) S_ .f32 0xFF800000#32) (constantI S_ 32 0#32)
    reducesTo_S8192x8192_S8192_d1 h_S_ (ix1 n) f i hi (fun m h => ?_) (ix2 n i) (drop_row n i) (row_pair N n f hN i) init_bot
  obtain ⟨k, rfl⟩ := row_positions n m h
  exact ⟨k, row_pair N n f hN k⟩

/-! ## The results -/

section Results

variable (x : Vec Ideal S8x1024x32 .f32) (e : Vec Ideal S32x8192 .f32)
variable (X : Fin 8 → Fin 1024 → Fin 32 → ℝ) (E : Fin 32 → Fin 8192 → ℝ)
variable (hx : ∀ b r j, x (ix3 b r j) = ((X b r j : ℝ) : EReal)) (he : ∀ j k, e (ix2 j k) = ((E j k : ℝ) : EReal))

include hx he

/-- The reference's distances are the squared distances. -/
theorem dist_real (n k : Fin 8192) : dist x e (ix2 n k) = ((sqDist (X (bat n) (row n)) E k : ℝ) : EReal) := by
  rw [dist_apply]
  simp only [hx, he, bits_two, ← EReal.coe_mul, coe_sum, ← EReal.coe_add, ← EReal.coe_sub]
  rfl

/-- The softmax's argument is minus a quarter of the distance. -/
theorem logits_real (n k : Fin 8192) :
    logits (dist x e) (ix2 n k) = ((-(sqDist (X (bat n) (row n)) E k) / 4 : ℝ) : EReal) := by
  rw [logits_apply, dist_real x e X E hx he, bits_four, ← EReal.coe_neg]
  exact coe_div _ (by norm_num)

/-- The quantised vectors are the soft means of the codes. -/
theorem outQ_real (b : Fin 8) (r : Fin 1024) (j : Fin 32) :
    outQ x e (ix3 b r j) = ((mean (sqDist (X b r) E) (E j) : ℝ) : EReal) := by
  have hr := r.isLt
  have hb := b.isLt
  have hlt : b.val * 1024 + r.val < 8192 := by omega
  have hB : bat ⟨b.val * 1024 + r.val, hlt⟩ = b := Fin.ext (by show (b.val * 1024 + r.val) / 1024 = b.val; omega)
  have hR : row ⟨b.val * 1024 + r.val, hlt⟩ = r := Fin.ext (by show (b.val * 1024 + r.val) % 1024 = r.val; omega)
  obtain ⟨M, hM⟩ := rowMax_real (logits (dist x e)) _ (logits_real x e X E hx he) ⟨b.val * 1024 + r.val, hlt⟩
  have hs : ∀ k, expo (logits (dist x e)) (ix2 ⟨b.val * 1024 + r.val, hlt⟩ k)
      = ((Real.exp (-(sqDist (X b r) E k) / 4 - M) : ℝ) : EReal) := fun k => by
    unfold expo
    rw [shifted_apply, hM, logits_real x e X E hx he, ← EReal.coe_sub, Ideal.exp_coe, hB, hR]
  have hp : (∑ k, Real.exp (-(sqDist (X b r) E k) / 4 - M)) ≠ 0 :=
    (Finset.sum_pos (fun k _ => Real.exp_pos _) ⟨0, Finset.mem_univ _⟩).ne'
  unfold outQ weights
  rw [quant_apply _ _ b r j ⟨b.val * 1024 + r.val, hlt⟩ rfl, ← mean_shift _ _ M, ← coe_sum]
  refine Finset.sum_congr rfl fun k _ => ?_
  simp only [norm_apply, hs, coe_sum, he]
  rw [coe_div _ hp, ← EReal.coe_mul]

/-- The loss is the mean squared error. -/
theorem outL_real (i : S_.Idx) :
    outL x e i = (((∑ b, ∑ r, ∑ j, (mean (sqDist (X b r) E) (E j) - X b r j) ^ 2) / 262144 : ℝ) : EReal) := by
  unfold outL
  rw [loss_apply, bits_size]
  simp only [outQ_real x e X E hx he, hx, ← EReal.coe_sub, ← EReal.coe_mul, coe_sum]
  rw [coe_div _ (by norm_num)]
  simp only [pow_two]

/-- The indices are the first nearest codes. -/
theorem outI_real (b : Fin 8) (r : Fin 1024) (i : Fin 8192) (hi : IsNearest (sqDist (X b r) E) i) :
    outI x e (ix2 b r) = BitVec.ofNat 32 i.val := by
  have hr := r.isLt
  have hb := b.isLt
  have hlt : b.val * 1024 + r.val < 8192 := by omega
  have hB : bat ⟨b.val * 1024 + r.val, hlt⟩ = b := Fin.ext (by show (b.val * 1024 + r.val) / 1024 = b.val; omega)
  have hR : row ⟨b.val * 1024 + r.val, hlt⟩ = r := Fin.ext (by show (b.val * 1024 + r.val) % 1024 = r.val; omega)
  unfold outI
  rw [reshape_apply _ b r ⟨b.val * 1024 + r.val, hlt⟩ rfl]
  refine argm_real _ _ (fun k => -(sqDist (X b r) E k)) (fun k => ?_) i (by simpa only [neg_neg] using hi)
  rw [negf_apply, dist_real x e X E hx he, hB, hR, EReal.coe_neg]

end Results

end Cert.Proof.Ref

end
-- ==== Proof.Equal.lean ====
/-
  The kernel's results are the reference's: what the precondition says of the arguments (every entry is a real number),
  and the three equations between the two programs' results that follow from it.
-/
module

public import proofs.«01_k».proof.Defs
public import proofs.«01_k».proof.Proof.KernelReal
public import proofs.«01_k».proof.Proof.RefReal
public import Idealize.ShloMosaic.Lib.KernelVsHost

@[expose] public section

set_option maxRecDepth 16384

noncomputable section

namespace Cert.Proof

open Cert.KernelIdeal Cert.KernelIdeal.Gen Cert.Proof.Soft
open Idealize.ShloMosaic Idealize.ShloMosaic.TcCoe Idealize.SL.Sem

/-- The broadcasts the precondition's predicate takes are lawful. -/
instance preFacts : Cert.Pre_finite.Facts where
  bcast_S_S8x1024x32 := by decide
  bcast_S_S32x8192 := by decide

/-- A value whose magnitude compares below `+∞` is a real number. -/
theorem real_of_finite (x : Ideal .f32)
    (h : FloatOps.cmpf .olt (FloatOps.hostAbsf x) (FloatOps.ofBits (F := Ideal) .f32 0x7F800000#32) = 1#1) :
    x = ((EReal.toReal x : ℝ) : EReal) := by
  rw [← Ideal.xori_weird_eq_hostAbsf_olt_inf] at h
  by_cases hw : (x : EReal) = ⊤ ∨ (x : EReal) = ⊥
  · have hf : FloatOps.weird x = 1#1 := by
      show BitVec.ofBool (decide ((x : EReal) = ⊤ ∨ (x : EReal) = ⊥)) = 1#1
      rw [decide_eq_true hw]
      rfl
    rw [hf] at h
    exact absurd h (by decide)
  · have hn := not_or.mp hw
    exact (EReal.coe_toReal hn.1 hn.2).symm

variable (m : (ℓ : Loc nD τ sig) → Buf (Elt Ideal) ℓ) (c : Dev nD)

/-- The kernel's input vectors, at their shape. -/
abbrev vectors : Vec Ideal S8x1024x32 .f32 := m ((c.tc : Thread nD τ).loc main_arg0)

/-- The kernel's codebook, at its shape. -/
abbrev book : Vec Ideal S32x8192 .f32 := m ((c.tc : Thread nD τ).loc main_arg1)

/-- Under the precondition, every entry of the input vectors is a real number. -/
theorem vectors_real (hm : Cert.Pre_KernelIdeal_finite m) (b : Fin 8) (r : Fin 1024) (j : Fin 32) :
    vectors m c (ix3 b r j) = ((EReal.toReal (vectors m c (ix3 b r j)) : ℝ) : EReal) :=
  real_of_finite _ (congrFun (hm c).1 (ix3 b r j))

/-- Under the precondition, every entry of the codebook is a real number. -/
theorem book_real (hm : Cert.Pre_KernelIdeal_finite m) (j : Fin 32) (k : Fin 8192) :
    book m c (ix2 j k) = ((EReal.toReal (book m c (ix2 j k)) : ℝ) : EReal) :=
  real_of_finite _ (congrFun (hm c).2 (ix2 j k))

/-- The quantised vectors of the two programs are equal. -/
theorem quantised_eq (hm : Cert.Pre_KernelIdeal_finite m) : Ref.outQ (vectors m c) (book m c) = Ker.resQ m c := by
  funext i
  obtain ⟨b, r, j, rfl⟩ : ∃ (b : Fin 8) (r : Fin 1024) (j : Fin 32), i = ix3 b r j := ⟨i 0, i 1, i 2, eq_ix3 i⟩
  exact (Ref.outQ_real _ _ _ _ (vectors_real m c hm) (book_real m c hm) b r j).trans
    (Ker.resQ_real m c _ _ (vectors_real m c hm) (book_real m c hm) b r j).symm

/-- The losses of the two programs are equal. -/
theorem loss_eq (hm : Cert.Pre_KernelIdeal_finite m) : Ref.outL (vectors m c) (book m c) = Ker.resL m c := by
  funext i
  exact (Ref.outL_real _ _ _ _ (vectors_real m c hm) (book_real m c hm) i).trans
    (Ker.resL_real m c _ _ (vectors_real m c hm) (book_real m c hm) i).symm

/-- The nearest-code indices of the two programs are equal. -/
theorem indices_eq (hm : Cert.Pre_KernelIdeal_finite m) : Ref.outI (vectors m c) (book m c) = Ker.resI m c := by
  funext i
  obtain ⟨b, r, rfl⟩ : ∃ (b : Fin 8) (r : Fin 1024), i = ix2 b r := ⟨i 0, i 1, eq_ix2 i⟩
  obtain ⟨k, hk⟩ := exists_nearest (sqDist (fun j => EReal.toReal (vectors m c (ix3 b r j))) fun j k => EReal.toReal (book m c (ix2 j k)))
  exact (Ref.outI_real _ _ (fun b r j => EReal.toReal (vectors m c (ix3 b r j))) (fun j k => EReal.toReal (book m c (ix2 j k)))
      (vectors_real m c hm) (book_real m c hm) b r k hk).trans
    (Ker.resI_real m c (fun b r j => EReal.toReal (vectors m c (ix3 b r j))) (fun j k => EReal.toReal (book m c (ix2 j k)))
      (vectors_real m c hm) (book_real m c hm) b r k hk).symm

end Cert.Proof

end
-- ==== Proof.lean ====
/-
  The certificate of `Cert.Claim`: the frames of the kernel as lowered, of the kernel over the reals and of the reference;
  the meaning of the one named constant; and the equality of the three results of the kernel and of the reference.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were, and ends with every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => ⟨(h c).2.2.2.1, (h c).2.2.2.2⟩, sem_eq_zero_of_no_sems (by decide) r.2⟩) (Ref.run_main m g)

/-- From memories that agree on real arguments, the kernel over the reals and the reference end with the same quantised
    vectors, the same loss and the same indices, and with their arguments unchanged. -/
theorem same_results : Cert.algebraic_KernelIdeal_ReferenceIdeal_pre_finite := by
  intro m g m' g' hm hagree
  refine ⟨fun c => Ker.resQ m c, fun c => Ker.resL m c, fun c => Ker.resI m c, Ker.run m g, ?_⟩
  refine (θ_run Cert.ReferenceIdeal.defs _ _).mono (fun r h c => ?_) (Ref.run_main m' g')
  obtain ⟨hq, hl, hi, h0, h1⟩ := h c
  rw [(hagree c).1, (hagree c).2] at hq hl hi
  exact ⟨hq.trans (quantised_eq m c hm), hl.trans (loss_eq m c hm), hi.trans (indices_eq m c hm), h0, h1⟩

/-- Every claim of the certificate: the five frames, the named constant's meaning, and the equal results. -/
theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    IdealRules.named_const.statement Cert.KernelIdeal.κ "neg_log2e_quarter" .f32 0xBEB8AA3B#32
      ((-((4 * (Real.log 2))⁻¹) : ℝ) : EReal) rfl,
    same_results⟩

end Cert.Proof

end
